-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x32x512x512 : Shape := ⟨4, ![8, 32, 512, 512]⟩
abbrev S32x32x3x3 : Shape := ⟨4, ![32, 32, 3, 3]⟩
abbrev S32 : Shape := ⟨1, ![32]⟩
abbrev S3x32x3x32 : Shape := ⟨4, ![3, 32, 3, 32]⟩
abbrev S96x96 : Shape := ⟨2, ![96, 96]⟩
abbrev S32x1 : Shape := ⟨2, ![32, 1]⟩
abbrev S32x512 : Shape := ⟨2, ![32, 512]⟩
abbrev S34176 : Shape := ⟨1, ![34176]⟩
abbrev S1x34176 : Shape := ⟨2, ![1, 34176]⟩
abbrev S_ : Shape := ⟨0, ![]⟩
abbrev S1x32x64x512 : Shape := ⟨4, ![1, 32, 64, 512]⟩
abbrev S96x34176 : Shape := ⟨2, ![96, 34176]⟩
abbrev S32x64x512 : Shape := ⟨3, ![32, 64, 512]⟩
abbrev S64x32x512 : Shape := ⟨3, ![64, 32, 512]⟩
abbrev S1x32x512 : Shape := ⟨3, ![1, 32, 512]⟩
abbrev S32x34176 : Shape := ⟨2, ![32, 34176]⟩
abbrev S96x33792 : Shape := ⟨2, ![96, 33792]⟩
abbrev S32x32768 : Shape := ⟨2, ![32, 32768]⟩

abbrev nBuf : Space → Nat
  | .hbm => 78
  | .vmem => 9
  | .smem => 0
  | _ => 0

abbrev bufTy : (tb : Table) → Fin (tcTables nBuf tb) → BufTy
  | .hbm, ⟨0, _⟩ => ⟨S8x32x512x512, .f32⟩
  | .hbm, ⟨1, _⟩ => ⟨S32x32x3x3, .f32⟩
  | .hbm, ⟨2, _⟩ => ⟨S32, .f32⟩
  | .hbm, ⟨3, _⟩ => ⟨S3x32x3x32, .f32⟩
  | .hbm, ⟨4, _⟩ => ⟨S96x96, .f32⟩
  | .hbm, ⟨5, _⟩ => ⟨S32x1, .f32⟩
  | .hbm, ⟨6, _⟩ => ⟨S32x512, .f32⟩
  | .hbm, ⟨7, _⟩ => ⟨S34176, .i32⟩
  | .hbm, ⟨8, _⟩ => ⟨S1x34176, .i32⟩
  | .hbm, ⟨9, _⟩ => ⟨S_, .i32⟩
  | .hbm, ⟨10, _⟩ => ⟨S1x34176, .i32⟩
  | .hbm, ⟨11, _⟩ => ⟨S1x34176, .i32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S_, .i1⟩
  | .hbm, ⟨16, _⟩ => ⟨S_, .i32⟩
  | .hbm, ⟨17, _⟩ => ⟨S_, .i32⟩
  | .hbm, ⟨18, _⟩ => ⟨S1x34176, .i32⟩
  | .hbm, ⟨19, _⟩ => ⟨S1x34176, .i32⟩
  | .hbm, ⟨20, _⟩ => ⟨S_, .i32⟩
  | .hbm, ⟨21, _⟩ => ⟨S1x34176, .i32⟩
  | .hbm, ⟨22, _⟩ => ⟨S1x34176, .i1⟩
  | .hbm, ⟨23, _⟩ => ⟨S_, .i32⟩
  | .hbm, ⟨24, _⟩ => ⟨S1x34176, .i32⟩
  | .hbm, ⟨25, _⟩ => ⟨S1x34176, .i1⟩
  | .hbm, ⟨26, _⟩ => ⟨S_, .i32⟩
  | .hbm, ⟨27, _⟩ => ⟨S_, .i1⟩
  | .hbm, ⟨28, _⟩ => ⟨S1x34176, .i1⟩
  | .hbm, ⟨29, _⟩ => ⟨S1x34176, .i1⟩
  | .hbm, ⟨30, _⟩ => ⟨S1x34176, .i1⟩
  | .hbm, ⟨31, _⟩ => ⟨S1x34176, .i32⟩
  | .hbm, ⟨32, _⟩ => ⟨S1x34176, .i32⟩
  | .hbm, ⟨33, _⟩ => ⟨S1x34176, .i32⟩
  | .hbm, ⟨34, _⟩ => ⟨S_, .i32⟩
  | .hbm, ⟨35, _⟩ => ⟨S1x34176, .i32⟩
  | .hbm, ⟨36, _⟩ => ⟨S1x34176, .i1⟩
  | .hbm, ⟨37, _⟩ => ⟨S_, .f32⟩
  | .hbm, ⟨38, _⟩ => ⟨S_, .f32⟩
  | .hbm, ⟨39, _⟩ => ⟨S1x34176, .f32⟩
  | .hbm, ⟨40, _⟩ => ⟨S1x34176, .f32⟩
  | .hbm, ⟨41, _⟩ => ⟨S1x34176, .f32⟩
  | .hbm, ⟨42, _⟩ => ⟨S1x34176, .f32⟩
  | .hbm, ⟨43, _⟩ => ⟨S_, .i32⟩
  | .hbm, ⟨44, _⟩ => ⟨S1x34176, .i32⟩
  | .hbm, ⟨45, _⟩ => ⟨S1x34176, .i32⟩
  | .hbm, ⟨46, _⟩ => ⟨S_, .i32⟩
  | .hbm, ⟨47, _⟩ => ⟨S_, .i32⟩
  | .hbm, ⟨48, _⟩ => ⟨S_, .i32⟩
  | .hbm, ⟨49, _⟩ => ⟨S_, .i1⟩
  | .hbm, ⟨50, _⟩ => ⟨S_, .i32⟩
  | .hbm, ⟨51, _⟩ => ⟨S_, .i32⟩
  | .hbm, ⟨52, _⟩ => ⟨S1x34176, .i32⟩
  | .hbm, ⟨53, _⟩ => ⟨S1x34176, .i32⟩
  | .hbm, ⟨54, _⟩ => ⟨S_, .i32⟩
  | .hbm, ⟨55, _⟩ => ⟨S1x34176, .i32⟩
  | .hbm, ⟨56, _⟩ => ⟨S1x34176, .i1⟩
  | .hbm, ⟨57, _⟩ => ⟨S_, .i32⟩
  | .hbm, ⟨58, _⟩ => ⟨S1x34176, .i32⟩
  | .hbm, ⟨59, _⟩ => ⟨S1x34176, .i1⟩
  | .hbm, ⟨60, _⟩ => ⟨S_, .i32⟩
  | .hbm, ⟨61, _⟩ => ⟨S_, .i1⟩
  | .hbm, ⟨62, _⟩ => ⟨S1x34176, .i1⟩
  | .hbm, ⟨63, _⟩ => ⟨S1x34176, .i1⟩
  | .hbm, ⟨64, _⟩ => ⟨S1x34176, .i1⟩
  | .hbm, ⟨65, _⟩ => ⟨S1x34176, .i32⟩
  | .hbm, ⟨66, _⟩ => ⟨S1x34176, .i32⟩
  | .hbm, ⟨67, _⟩ => ⟨S1x34176, .i32⟩
  | .hbm, ⟨68, _⟩ => ⟨S_, .i32⟩
  | .hbm, ⟨69, _⟩ => ⟨S1x34176, .i32⟩
  | .hbm, ⟨70, _⟩ => ⟨S1x34176, .i1⟩
  | .hbm, ⟨71, _⟩ => ⟨S_, .f32⟩
  | .hbm, ⟨72, _⟩ => ⟨S_, .f32⟩
  | .hbm, ⟨73, _⟩ => ⟨S1x34176, .f32⟩
  | .hbm, ⟨74, _⟩ => ⟨S1x34176, .f32⟩
  | .hbm, ⟨75, _⟩ => ⟨S1x34176, .f32⟩
  | .hbm, ⟨76, _⟩ => ⟨S1x34176, .f32⟩
  | .hbm, ⟨77, _⟩ => ⟨S8x32x512x512, .f32⟩
  | .local _ .vmem, ⟨0, _⟩ => ⟨S1x32x64x512, .f32⟩
  | .local _ .vmem, ⟨1, _⟩ => ⟨S1x32x64x512, .f32⟩
  | .local _ .vmem, ⟨2, _⟩ => ⟨S96x96, .f32⟩
  | .local _ .vmem, ⟨3, _⟩ => ⟨S32x512, .f32⟩
  | .local _ .vmem, ⟨4, _⟩ => ⟨S1x34176, .f32⟩
  | .local _ .vmem, ⟨5, _⟩ => ⟨S1x34176, .f32⟩
  | .local _ .vmem, ⟨6, _⟩ => ⟨S1x32x64x512, .f32⟩
  | .local _ .vmem, ⟨7, _⟩ => ⟨S1x32x64x512, .f32⟩
  | .local _ .vmem, ⟨8, _⟩ => ⟨S96x34176, .f32⟩
  | _, _ => ⟨S8x32x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_c : Ref sig .tc := ⟨.hbm, 9, rfl⟩
abbrev main_v6 : Ref sig .tc := ⟨.hbm, 10, rfl⟩
abbrev main_v7 : Ref sig .tc := ⟨.hbm, 11, rfl⟩
abbrev main_c_0 : Ref sig .tc := ⟨.hbm, 12, rfl⟩
abbrev main_call0_v0 : Ref sig .tc := ⟨.hbm, 13, rfl⟩
abbrev main_call0_c : Ref sig .tc := ⟨.hbm, 14, rfl⟩
abbrev main_call0_v1 : Ref sig .tc := ⟨.hbm, 15, rfl⟩
abbrev main_call0_c_0 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_c_1 : Ref sig .tc := ⟨.hbm, 20, rfl⟩
abbrev main_call0_v5 : Ref sig .tc := ⟨.hbm, 21, rfl⟩
abbrev main_call0_v6 : Ref sig .tc := ⟨.hbm, 22, rfl⟩
abbrev main_call0_c_2 : Ref sig .tc := ⟨.hbm, 23, rfl⟩
abbrev main_call0_v7 : Ref sig .tc := ⟨.hbm, 24, rfl⟩
abbrev main_call0_v8 : Ref sig .tc := ⟨.hbm, 25, rfl⟩
abbrev main_call0_c_3 : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_call0_v12 : Ref sig .tc := ⟨.hbm, 30, rfl⟩
abbrev main_call0_v13 : Ref sig .tc := ⟨.hbm, 31, rfl⟩
abbrev main_call0_v14 : Ref sig .tc := ⟨.hbm, 32, rfl⟩
abbrev main_v8 : Ref sig .tc := ⟨.hbm, 33, rfl⟩
abbrev main_c_1 : Ref sig .tc := ⟨.hbm, 34, rfl⟩
abbrev main_v9 : Ref sig .tc := ⟨.hbm, 35, rfl⟩
abbrev main_v10 : Ref sig .tc := ⟨.hbm, 36, rfl⟩
abbrev main_cst : Ref sig .tc := ⟨.hbm, 37, rfl⟩
abbrev main_cst_2 : Ref sig .tc := ⟨.hbm, 38, rfl⟩
abbrev main_call1_v0 : Ref sig .tc := ⟨.hbm, 39, rfl⟩
abbrev main_call1_v1 : Ref sig .tc := ⟨.hbm, 40, rfl⟩
abbrev main_v11 : Ref sig .tc := ⟨.hbm, 41, rfl⟩
abbrev main_v12 : Ref sig .tc := ⟨.hbm, 42, rfl⟩
abbrev main_c_3 : Ref sig .tc := ⟨.hbm, 43, rfl⟩
abbrev main_v13 : Ref sig .tc := ⟨.hbm, 44, rfl⟩
abbrev main_v14 : Ref sig .tc := ⟨.hbm, 45, rfl⟩
abbrev main_c_4 : Ref sig .tc := ⟨.hbm, 46, rfl⟩
abbrev main_call2_v0 : Ref sig .tc := ⟨.hbm, 47, rfl⟩
abbrev main_call2_c : Ref sig .tc := ⟨.hbm, 48, rfl⟩
abbrev main_call2_v1 : Ref sig .tc := ⟨.hbm, 49, rfl⟩
abbrev main_call2_c_0 : Ref sig .tc := ⟨.hbm, 50, rfl⟩
abbrev main_call2_v2 : Ref sig .tc := ⟨.hbm, 51, rfl⟩
abbrev main_call2_v3 : Ref sig .tc := ⟨.hbm, 52, rfl⟩
abbrev main_call2_v4 : Ref sig .tc := ⟨.hbm, 53, rfl⟩
abbrev main_call2_c_1 : Ref sig .tc := ⟨.hbm, 54, rfl⟩
abbrev main_call2_v5 : Ref sig .tc := ⟨.hbm, 55, rfl⟩
abbrev main_call2_v6 : Ref sig .tc := ⟨.hbm, 56, rfl⟩
abbrev main_call2_c_2 : Ref sig .tc := ⟨.hbm, 57, rfl⟩
abbrev main_call2_v7 : Ref sig .tc := ⟨.hbm, 58, rfl⟩
abbrev main_call2_v8 : Ref sig .tc := ⟨.hbm, 59, rfl⟩
abbrev main_call2_c_3 : Ref sig .tc := ⟨.hbm, 60, rfl⟩
abbrev main_call2_v9 : Ref sig .tc := ⟨.hbm, 61, rfl⟩
abbrev main_call2_v10 : Ref sig .tc := ⟨.hbm, 62, rfl⟩
abbrev main_call2_v11 : Ref sig .tc := ⟨.hbm, 63, rfl⟩
abbrev main_call2_v12 : Ref sig .tc := ⟨.hbm, 64, rfl⟩
abbrev main_call2_v13 : Ref sig .tc := ⟨.hbm, 65, rfl⟩
abbrev main_call2_v14 : Ref sig .tc := ⟨.hbm, 66, rfl⟩
abbrev main_v15 : Ref sig .tc := ⟨.hbm, 67, rfl⟩
abbrev main_c_5 : Ref sig .tc := ⟨.hbm, 68, rfl⟩
abbrev main_v16 : Ref sig .tc := ⟨.hbm, 69, rfl⟩
abbrev main_v17 : Ref sig .tc := ⟨.hbm, 70, rfl⟩
abbrev main_cst_6 : Ref sig .tc := ⟨.hbm, 71, rfl⟩
abbrev main_cst_7 : Ref sig .tc := ⟨.hbm, 72, rfl⟩
abbrev main_call3_v0 : Ref sig .tc := ⟨.hbm, 73, rfl⟩
abbrev main_call3_v1 : Ref sig .tc := ⟨.hbm, 74, rfl⟩
abbrev main_v18 : Ref sig .tc := ⟨.hbm, 75, rfl⟩
abbrev main_v19 : Ref sig .tc := ⟨.hbm, 76, rfl⟩
abbrev main_v20 : Ref sig .tc := ⟨.hbm, 77, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨2, ![8, 9], ![false, false]⟩

def k0_cond2 (i : grid0.Coords) : BitVec 1 :=
  let arg1 : BitVec 32 := BitVec.ofNat 32 (i 1).val
  let c0_i32_4 : BitVec 32 := 0#32
  let v6 : BitVec 1 := Scalar.cmpi .sgt arg1 c0_i32_4
  let v7 : BitVec 32 := Scalar.extui v6
  let c0_i32_5 : BitVec 32 := 0#32
  let v8 : BitVec 1 := Scalar.cmpi .ne v7 c0_i32_5
  v8

def cc0_transform_0 (i : grid0.Coords) : Fin 4 → Nat :=
  let arg0 : BitVec 32 := BitVec.ofNat 32 (i 0).val
  let arg1 : BitVec 32 := BitVec.ofNat 32 (i 1).val
  let c7_i32 : BitVec 32 := 7#32
  let v0 : BitVec 32 := Scalar.minsi arg1 c7_i32
  let c0_i32 : BitVec 32 := 0#32
  let c0_i32_0 : BitVec 32 := 0#32
  let c0_i32_1 : BitVec 32 := 0#32
  ![arg0.toNat, c0_i32.toNat, v0.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![arg0.toNat, c0_i32_0.toNat, v1.toNat, c0_i32_1.toNat]

abbrev stage0_0 : Fin 2 → Memref sig .tc .vmem S1x32x64x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S96x96 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S32x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x34176 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x34176 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x32x64x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceIdeal.lean ====
abbrev S8x32x512x512 : Shape := ⟨4, ![8, 32, 512, 512]⟩
abbrev S32x32x3x3 : Shape := ⟨4, ![32, 32, 3, 3]⟩
abbrev S32 : Shape := ⟨1, ![32]⟩
abbrev S_ : Shape := ⟨0, ![]⟩
abbrev S8x32x514x514 : Shape := ⟨4, ![8, 32, 514, 514]⟩
abbrev S32x32x1x1 : Shape := ⟨4, ![32, 32, 1, 1]⟩
abbrev S32x32 : Shape := ⟨2, ![32, 32]⟩
abbrev S32x8x512x512 : Shape := ⟨4, ![32, 8, 512, 512]⟩
abbrev S1x32x1x1 : Shape := ⟨4, ![1, 32, 1, 1]⟩

abbrev nBuf : Space → Nat
  | .hbm => 62
  | .vmem => 0
  | .smem => 0
  | _ => 0

abbrev bufTy : (tb : Table) → Fin (tcTables nBuf tb) → BufTy
  | .hbm, ⟨0, _⟩ => ⟨S8x32x512x512, .f32⟩
  | .hbm, ⟨1, _⟩ => ⟨S32x32x3x3, .f32⟩
  | .hbm, ⟨2, _⟩ => ⟨S32, .f32⟩
  | .hbm, ⟨3, _⟩ => ⟨S_, .i32⟩
  | .hbm, ⟨4, _⟩ => ⟨S_, .f32⟩
  | .hbm, ⟨5, _⟩ => ⟨S8x32x514x514, .f32⟩
  | .hbm, ⟨6, _⟩ => ⟨S8x32x512x512, .f32⟩
  | .hbm, ⟨7, _⟩ => ⟨S32x32x1x1, .f32⟩
  | .hbm, ⟨8, _⟩ => ⟨S32x32, .f32⟩
  | .hbm, ⟨9, _⟩ => ⟨S32x8x512x512, .f32⟩
  | .hbm, ⟨10, _⟩ => ⟨S8x32x512x512, .f32⟩
  | .hbm, ⟨11, _⟩ => ⟨S8x32x512x512, .f32⟩
  | .hbm, ⟨12, _⟩ => ⟨S32x32x1x1, .f32⟩
  | .hbm, ⟨13, _⟩ => ⟨S32x32, .f32⟩
  | .hbm, ⟨14, _⟩ => ⟨S32x8x512x512, .f32⟩
  | .hbm, ⟨15, _⟩ => ⟨S8x32x512x512, .f32⟩
  | .hbm, ⟨16, _⟩ => ⟨S8x32x512x512, .f32⟩
  | .hbm, ⟨17, _⟩ => ⟨S8x32x512x512, .f32⟩
  | .hbm, ⟨18, _⟩ => ⟨S32x32x1x1, .f32⟩
  | .hbm, ⟨19, _⟩ => ⟨S32x32, .f32⟩
  | .hbm, ⟨20, _⟩ => ⟨S32x8x512x512, .f32⟩
  | .hbm, ⟨21, _⟩ => ⟨S8x32x512x512, .f32⟩
  | .hbm, ⟨22, _⟩ => ⟨S8x32x512x512, .f32⟩
  | .hbm, ⟨23, _⟩ => ⟨S8x32x512x512, .f32⟩
  | .hbm, ⟨24, _⟩ => ⟨S32x32x1x1, .f32⟩
  | .hbm, ⟨25, _⟩ => ⟨S32x32, .f32⟩
  | .hbm, ⟨26, _⟩ => ⟨S32x8x512x512, .f32⟩
  | .hbm, ⟨27, _⟩ => ⟨S8x32x512x512, .f32⟩
  | .hbm, ⟨28, _⟩ => ⟨S8x32x512x512, .f32⟩
  | .hbm, ⟨29, _⟩ => ⟨S8x32x512x512, .f32⟩
  | .hbm, ⟨30, _⟩ => ⟨S32x32x1x1, .f32⟩
  | .hbm, ⟨31, _⟩ => ⟨S32x32, .f32⟩
  | .hbm, ⟨32, _⟩ => ⟨S32x8x512x512, .f32⟩
  | .hbm, ⟨33, _⟩ => ⟨S8x32x512x512, .f32⟩
  | .hbm, ⟨34, _⟩ => ⟨S8x32x512x512, .f32⟩
  | .hbm, ⟨35, _⟩ => ⟨S8x32x512x512, .f32⟩
  | .hbm, ⟨36, _⟩ => ⟨S32x32x1x1, .f32⟩
  | .hbm, ⟨37, _⟩ => ⟨S32x32, .f32⟩
  | .hbm, ⟨38, _⟩ => ⟨S32x8x512x512, .f32⟩
  | .hbm, ⟨39, _⟩ => ⟨S8x32x512x512, .f32⟩
  | .hbm, ⟨40, _⟩ => ⟨S8x32x512x512, .f32⟩
  | .hbm, ⟨41, _⟩ => ⟨S8x32x512x512, .f32⟩
  | .hbm, ⟨42, _⟩ => ⟨S32x32x1x1, .f32⟩
  | .hbm, ⟨43, _⟩ => ⟨S32x32, .f32⟩
  | .hbm, ⟨44, _⟩ => ⟨S32x8x512x512, .f32⟩
  | .hbm, ⟨45, _⟩ => ⟨S8x32x512x512, .f32⟩
  | .hbm, ⟨46, _⟩ => ⟨S8x32x512x512, .f32⟩
  | .hbm, ⟨47, _⟩ => ⟨S8x32x512x512, .f32⟩
  | .hbm, ⟨48, _⟩ => ⟨S32x32x1x1, .f32⟩
  | .hbm, ⟨49, _⟩ => ⟨S32x32, .f32⟩
  | .hbm, ⟨50, _⟩ => ⟨S32x8x512x512, .f32⟩
  | .hbm, ⟨51, _⟩ => ⟨S8x32x512x512, .f32⟩
  | .hbm, ⟨52, _⟩ => ⟨S8x32x512x512, .f32⟩
  | .hbm, ⟨53, _⟩ => ⟨S8x32x512x512, .f32⟩
  | .hbm, ⟨54, _⟩ => ⟨S32x32x1x1, .f32⟩
  | .hbm, ⟨55, _⟩ => ⟨S32x32, .f32⟩
  | .hbm, ⟨56, _⟩ => ⟨S32x8x512x512, .f32⟩
  | .hbm, ⟨57, _⟩ => ⟨S8x32x512x512, .f32⟩
  | .hbm, ⟨58, _⟩ => ⟨S8x32x512x512, .f32⟩
  | .hbm, ⟨59, _⟩ => ⟨S1x32x1x1, .f32⟩
  | .hbm, ⟨60, _⟩ => ⟨S8x32x512x512, .f32⟩
  | .hbm, ⟨61, _⟩ => ⟨S8x32x512x512, .f32⟩
  | _, _ => ⟨S8x32x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_v44 : Ref sig .tc := ⟨.hbm, 49, rfl⟩
abbrev main_v45 : Ref sig .tc := ⟨.hbm, 50, rfl⟩
abbrev main_v46 : Ref sig .tc := ⟨.hbm, 51, rfl⟩
abbrev main_v47 : Ref sig .tc := ⟨.hbm, 52, rfl⟩
abbrev main_v48 : Ref sig .tc := ⟨.hbm, 53, rfl⟩
abbrev main_v49 : Ref sig .tc := ⟨.hbm, 54, rfl⟩
abbrev main_v50 : Ref sig .tc := ⟨.hbm, 55, rfl⟩
abbrev main_v51 : Ref sig .tc := ⟨.hbm, 56, rfl⟩
abbrev main_v52 : Ref sig .tc := ⟨.hbm, 57, rfl⟩
abbrev main_v53 : Ref sig .tc := ⟨.hbm, 58, rfl⟩
abbrev main_v54 : Ref sig .tc := ⟨.hbm, 59, rfl⟩
abbrev main_v55 : Ref sig .tc := ⟨.hbm, 60, rfl⟩
abbrev main_v56 : Ref sig .tc := ⟨.hbm, 61, rfl⟩

abbrev nD : Nat := 1
abbrev τ : Topo := Topo.v7x

variable {F : FTy → Type} [FloatOps F]
-- ==== Proof.Stage.lean ====
/-
  What the kernel's body leaves in its scratch slab.

  The slab is `[96, 34176]`: three bands of 32 channels; image row `r` of the 66 rows a band holds lies at lanes
  `128 + 512 r … 128 + 512 r + 511`. The body ends by storing the 64 rows of its input block, one store per row, at rows
  1 to 64 of the middle band. `stageL` is that list of stores by recursion on the number of rows, and the two lemmas
  after it read it: under a stored row its payload, left of the rows what earlier stores left.
-/
module

public import proofs.«01_k».proof.Proof.Gen.KernelIdeal.Frame
public import Idealize.ShloMosaic.Lib.WritesUnit
public import Idealize.ShloMosaic.Lib.Pointwise
public import Idealize.ShloMosaic.Lib.Pipeline.Value

@[expose] public section

set_option maxRecDepth 16384

noncomputable section

namespace Cert.KernelIdeal.Value

open Idealize.ShloMosaic Idealize.ShloMosaic.TcCoe Idealize.SL.Sem
open Cert.KernelIdeal Cert.KernelIdeal.Gen

variable {F : FTy → Type} [FloatOps F]

/-! ## Sixty-four row stores -/

theorem row_slices (n : ℕ) (h : n < 64) : S64x32x512.Slices ![n, 0, 0] S1x32x512 :=
  ⟨rfl, fun a => by
    match a with
    | ⟨0, _⟩ => show n + 1 ≤ 64; omega
    | ⟨1, _⟩ => show 0 + 32 ≤ 32; omega
    | ⟨2, _⟩ => show 0 + 512 ≤ 512; omega⟩

theorem row_inb (n : ℕ) (h : n < 64) : ∀ a : Fin 2, (![32, 640 + 512 * n] : Fin 2 → ℕ) a + S32x512.size a ≤ S96x34176.size a
  | ⟨0, _⟩ => by show 32 + 32 ≤ 96; omega
  | ⟨1, _⟩ => by show 640 + 512 * n + 512 ≤ 34176; omega

/-- Row `n` of the input block, as the body cuts it out and stores it. -/
def stagedRow (x : Vec F S1x32x64x512 .f32) (n : ℕ) (h : n < 64) : FVec F S32x512 .f32 :=
  shapeCast S32x512 (shapeCast S32x512 (extractStridedSlice S1x32x512 ![n, 0, 0] (k0_pay2 x) (row_slices n h))
    shapeCasts_S1x32x512_S32x512) shapeCasts_S32x512_S32x512

/-- Row `n` of the input block at channel `c`, lane `w`. -/
theorem stagedRow_apply (x : Vec F S1x32x64x512 .f32) (n : ℕ) (h : n < 64) (c : Fin 32) (w : Fin 512) :
    stagedRow x n h (ix2 c w) = x (ix4 0 c ⟨n, h⟩ w) := by
  unfold stagedRow k0_pay2
  pointwise

/-- The stores of rows 0 to `n - 1` of the input block, last first, over the earlier stores `rest`. -/
def stageL (x : Vec F S1x32x64x512 .f32) (rest : List (View.Piece (Elt F) S96x34176 .f32)) :
    (n : ℕ) → n ≤ 64 → List (View.Piece (Elt F) S96x34176 .f32)
  | 0, _ => rest
  | n + 1, h => ⟨Rect.unit ![32, 640 + 512 * n] S32x512.size (row_inb n h), stagedRow x n h⟩ :: stageL x rest n (Nat.le_of_succ_le h)

variable {sig' : RefSig} {κ : Kind} {sp : Space}

/-- Under row `k` of the stored rows, the slab reads the input block's row `k`. -/
theorem read_stageL_row (v : View sig' κ sp S96x34176 .f32) (f : v.ty.Contents (Elt F)) (x : Vec F S1x32x64x512 .f32)
    (rest : List (View.Piece (Elt F) S96x34176 .f32)) (k : ℕ) (hk : k < 64) (c : Fin 32) (w : Fin 512) (y : S96x34176.Idx)
    (y0 : (y 0).val = 32 + c.val) (y1 : (y 1).val = 640 + 512 * k + w.val) :
    ∀ (n : ℕ) (hn : n ≤ 64), k < n → v.read (Elt F) (v.writes (Elt F) f (stageL x rest n hn)) y = x (ix4 0 c ⟨k, hk⟩ w)
  | 0, _, h => absurd h (Nat.not_lt_zero _)
  | n + 1, hn, h => by
    unfold stageL
    by_cases e : k = n
    · subst e
      exact (View.read_writes_cons_unit_of_mem v f (row_inb k hn) (stagedRow x k hn) _ y (ix2 c w) rfl
        (Fin.forall_fin_two.mpr ⟨y0, y1⟩)).trans (stagedRow_apply x k hn c w)
    · refine (View.read_writes_cons_unit_of_not_mem v f (row_inb n hn) (stagedRow x n hn) _ y rfl (1 : Fin 2) (.inl ?_)).trans ?_
      · show (y 1).val < 640 + 512 * n
        have := w.isLt
        omega
      exact read_stageL_row v f x rest k hk c w y y0 y1 n _ (by omega)

/-- Left of the stored rows the slab reads what the earlier stores left. -/
theorem read_stageL_left (v : View sig' κ sp S96x34176 .f32) (f : v.ty.Contents (Elt F)) (x : Vec F S1x32x64x512 .f32)
    (rest : List (View.Piece (Elt F) S96x34176 .f32)) (y : S96x34176.Idx) (y1 : (y 1).val < 640) :
    ∀ (n : ℕ) (hn : n ≤ 64), v.read (Elt F) (v.writes (Elt F) f (stageL x rest n hn)) y = v.read (Elt F) (v.writes (Elt F) f rest) y
  | 0, _ => rfl
  | n + 1, hn => by
    unfold stageL
    refine (View.read_writes_cons_unit_of_not_mem v f (row_inb n hn) (stagedRow x n hn) _ y rfl (1 : Fin 2) (.inl ?_)).trans ?_
    · show (y 1).val < 640 + 512 * n
      omega
    exact read_stageL_left v f x rest y y1 n _

/-! ## The slab after a point -/

theorem hz4 : (![0, 0, 0, 0] : Fin 4 → ℕ) = fun _ => 0 := funext fun a => by fin_cases a <;> rfl
theorem hz2 : (![0, 0] : Fin 2 → ℕ) = fun _ => 0 := funext fun a => by fin_cases a <;> rfl

/-- Case A (the first point of an image): the slab is zeroed, then the block's rows are stored. -/
theorem sout_A (c : Dev nD) (i : grid0.Coords) (arg2 : Memref sig .tc .vmem S1x32x64x512 .f32) (harg2 : arg2.IsWhole) (arg3 : Memref sig .tc .vmem S96x96 .f32) (harg3 : arg3.IsWhole) (arg4 : Memref sig .tc .vmem S32x512 .f32) (harg4 : arg4.IsWhole) (arg5 : Memref sig .tc .vmem S1x34176 .f32) (harg5 : arg5.IsWhole) (arg6 : Memref sig .tc .vmem S1x34176 .f32) (harg6 : arg6.IsWhole) (arg7 : Memref sig .tc .vmem S1x32x64x512 .f32) (harg7 : arg7.IsWhole) (arg8 : Memref sig .tc .vmem S96x34176 .f32) (harg8 : arg8.IsWhole) (hc0 : cond0_0 i) (hc1 : ¬cond0_1 i) (hc2 : cond0_2 i) (hc3 : ¬cond0_3 i)
    (x0 : Vec F S1x32x64x512 .f32) (x1 : Vec F S96x96 .f32) (x2 : Vec F S32x512 .f32) (x3 : Vec F S1x34176 .f32) (x4 : Vec F S1x34176 .f32) :
    sout0_A_0 c i arg2 harg2 arg3 harg3 arg4 harg4 arg5 harg5 arg6 harg6 arg7 harg7 arg8 harg8 hc0 hc1 hc2 hc3 x0 x1 x2 x3 x4
      = VS0_0.read (Elt F) (VS0_0.writes (Elt F) VS0_0.junk (stageL x0
          [⟨Rect.unit ![0, 0] S96x34176.size inb_S96x34176_S96x34176_0_0, k0_pay1 (F := F)⟩] 64 le_rfl)) := by
  unfold sout0_A_0 kernelRun0_A
  dsimp only
  sl_unfold_words
  simp only [View.readAt_eq_ld, harg2.read_unread, View.ld_unit_zero (S := S1x32x64x512) hz4]
  rfl

/-- Case A's slab at row 0 of the middle band: zero. -/
theorem sout_A_top (c : Dev nD) (i : grid0.Coords) (arg2 : Memref sig .tc .vmem S1x32x64x512 .f32) (harg2 : arg2.IsWhole) (arg3 : Memref sig .tc .vmem S96x96 .f32) (harg3 : arg3.IsWhole) (arg4 : Memref sig .tc .vmem S32x512 .f32) (harg4 : arg4.IsWhole) (arg5 : Memref sig .tc .vmem S1x34176 .f32) (harg5 : arg5.IsWhole) (arg6 : Memref sig .tc .vmem S1x34176 .f32) (harg6 : arg6.IsWhole) (arg7 : Memref sig .tc .vmem S1x32x64x512 .f32) (harg7 : arg7.IsWhole) (arg8 : Memref sig .tc .vmem S96x34176 .f32) (harg8 : arg8.IsWhole) (hc0 : cond0_0 i) (hc1 : ¬cond0_1 i) (hc2 : cond0_2 i) (hc3 : ¬cond0_3 i)
    (x0 : Vec F S1x32x64x512 .f32) (x1 : Vec F S96x96 .f32) (x2 : Vec F S32x512 .f32) (x3 : Vec F S1x34176 .f32) (x4 : Vec F S1x34176 .f32)
    (cc : Fin 32) (w : Fin 512) (y : S96x34176.Idx) (y0 : (y 0).val = 32 + cc.val) (y1 : (y 1).val = 128 + w.val) :
    sout0_A_0 c i arg2 harg2 arg3 harg3 arg4 harg4 arg5 harg5 arg6 harg6 arg7 harg7 arg8 harg8 hc0 hc1 hc2 hc3 x0 x1 x2 x3 x4 y = Scalar.ofBits .f32 0x00000000#32 := by
  have hw := w.isLt
  rw [sout_A]
  refine (read_stageL_left _ _ x0 _ y (by omega) 64 le_rfl).trans ?_
  rw [View.read_writes_junk_eq_canon, View.canon_unit_zero hz2]
  rfl

/-- Case A's slab at row `k + 1` of the middle band: the block's row `k`. -/
theorem sout_A_row (c : Dev nD) (i : grid0.Coords) (arg2 : Memref sig .tc .vmem S1x32x64x512 .f32) (harg2 : arg2.IsWhole) (arg3 : Memref sig .tc .vmem S96x96 .f32) (harg3 : arg3.IsWhole) (arg4 : Memref sig .tc .vmem S32x512 .f32) (harg4 : arg4.IsWhole) (arg5 : Memref sig .tc .vmem S1x34176 .f32) (harg5 : arg5.IsWhole) (arg6 : Memref sig .tc .vmem S1x34176 .f32) (harg6 : arg6.IsWhole) (arg7 : Memref sig .tc .vmem S1x32x64x512 .f32) (harg7 : arg7.IsWhole) (arg8 : Memref sig .tc .vmem S96x34176 .f32) (harg8 : arg8.IsWhole) (hc0 : cond0_0 i) (hc1 : ¬cond0_1 i) (hc2 : cond0_2 i) (hc3 : ¬cond0_3 i)
    (x0 : Vec F S1x32x64x512 .f32) (x1 : Vec F S96x96 .f32) (x2 : Vec F S32x512 .f32) (x3 : Vec F S1x34176 .f32) (x4 : Vec F S1x34176 .f32)
    (cc : Fin 32) (k : ℕ) (hk : k < 64) (w : Fin 512) (y : S96x34176.Idx) (y0 : (y 0).val = 32 + cc.val) (y1 : (y 1).val = 640 + 512 * k + w.val) :
    sout0_A_0 c i arg2 harg2 arg3 harg3 arg4 harg4 arg5 harg5 arg6 harg6 arg7 harg7 arg8 harg8 hc0 hc1 hc2 hc3 x0 x1 x2 x3 x4 y = x0 (ix4 0 cc ⟨k, hk⟩ w) := by
  rw [sout_A]
  exact read_stageL_row _ _ x0 _ k hk cc w y y0 y1 64 le_rfl hk

/-- Case B (the points between): row 64 is carried to row 0 and the block's rows are stored over it. -/
theorem sout_B (c : Dev nD) (i : grid0.Coords) (arg2 : Memref sig .tc .vmem S1x32x64x512 .f32) (harg2 : arg2.IsWhole) (arg3 : Memref sig .tc .vmem S96x96 .f32) (harg3 : arg3.IsWhole) (arg4 : Memref sig .tc .vmem S32x512 .f32) (harg4 : arg4.IsWhole) (arg5 : Memref sig .tc .vmem S1x34176 .f32) (harg5 : arg5.IsWhole) (arg6 : Memref sig .tc .vmem S1x34176 .f32) (harg6 : arg6.IsWhole) (arg7 : Memref sig .tc .vmem S1x32x64x512 .f32) (harg7 : arg7.IsWhole) (arg8 : Memref sig .tc .vmem S96x34176 .f32) (harg8 : arg8.IsWhole) (hc0 : ¬cond0_0 i) (hc1 : cond0_1 i) (hc2 : cond0_2 i) (hc3 : cond0_3 i) (hc4 : cond0_4 i) (hc5 : ¬cond0_5 i)
    (x0 : Vec F S1x32x64x512 .f32) (x1 : Vec F S96x96 .f32) (x2 : Vec F S32x512 .f32) (x3 : Vec F S1x34176 .f32) (x4 : Vec F S1x34176 .f32) (xs0 : Vec F S96x34176 .f32) :
    ∃ rest, sout0_B_0 c i arg2 harg2 arg3 harg3 arg4 harg4 arg5 harg5 arg6 harg6 arg7 harg7 arg8 harg8 hc0 hc1 hc2 hc3 hc4 hc5 x0 x1 x2 x3 x4 xs0
      = arg8.view.read (Elt F) (arg8.view.writes (Elt F) (harg8.unread xs0) (stageL x0
          (⟨Rect.unit ![32, 128] S32x512.size inb_S96x34176_S32x512_32_128,
            k0_pay136 (View.ld xs0 (Rect.unit ![32, 32896] S32x512.size inb_S96x34176_S32x512_32_32896))⟩ :: rest) 64 le_rfl)) := by
  unfold sout0_B_0 kernelRun0_B
  dsimp only
  sl_unfold_words
  simp only [View.readAt_eq_ld, harg2.read_unread, harg8.read_unread, View.ld_unit_zero (S := S1x32x64x512) hz4]
  exact ⟨_, rfl⟩

/-- Case B's slab at row 0 of the middle band: row 64 of the slab the point found. -/
theorem sout_B_top (c : Dev nD) (i : grid0.Coords) (arg2 : Memref sig .tc .vmem S1x32x64x512 .f32) (harg2 : arg2.IsWhole) (arg3 : Memref sig .tc .vmem S96x96 .f32) (harg3 : arg3.IsWhole) (arg4 : Memref sig .tc .vmem S32x512 .f32) (harg4 : arg4.IsWhole) (arg5 : Memref sig .tc .vmem S1x34176 .f32) (harg5 : arg5.IsWhole) (arg6 : Memref sig .tc .vmem S1x34176 .f32) (harg6 : arg6.IsWhole) (arg7 : Memref sig .tc .vmem S1x32x64x512 .f32) (harg7 : arg7.IsWhole) (arg8 : Memref sig .tc .vmem S96x34176 .f32) (harg8 : arg8.IsWhole) (hc0 : ¬cond0_0 i) (hc1 : cond0_1 i) (hc2 : cond0_2 i) (hc3 : cond0_3 i) (hc4 : cond0_4 i) (hc5 : ¬cond0_5 i)
    (x0 : Vec F S1x32x64x512 .f32) (x1 : Vec F S96x96 .f32) (x2 : Vec F S32x512 .f32) (x3 : Vec F S1x34176 .f32) (x4 : Vec F S1x34176 .f32) (xs0 : Vec F S96x34176 .f32)
    (cc : Fin 32) (w : Fin 512) (y z : S96x34176.Idx) (y0 : (y 0).val = 32 + cc.val) (y1 : (y 1).val = 128 + w.val)
    (z0 : (z 0).val = 32 + cc.val) (z1 : (z 1).val = 32896 + w.val) :
    sout0_B_0 c i arg2 harg2 arg3 harg3 arg4 harg4 arg5 harg5 arg6 harg6 arg7 harg7 arg8 harg8 hc0 hc1 hc2 hc3 hc4 hc5 x0 x1 x2 x3 x4 xs0 y = xs0 z := by
  have hw := w.isLt
  obtain ⟨rest, h⟩ := sout_B c i arg2 harg2 arg3 harg3 arg4 harg4 arg5 harg5 arg6 harg6 arg7 harg7 arg8 harg8 hc0 hc1 hc2 hc3 hc4 hc5 x0 x1 x2 x3 x4 xs0
  rw [h]
  refine (read_stageL_left _ _ x0 _ y (by omega) 64 le_rfl).trans ?_
  refine (View.read_writes_cons_unit_of_mem _ _ inb_S96x34176_S32x512_32_128 _ _ y (ix2 cc w) rfl
    (Fin.forall_fin_two.mpr ⟨y0, y1⟩)).trans ?_
  rw [show k0_pay136 (View.ld xs0 (Rect.unit ![32, 32896] S32x512.size inb_S96x34176_S32x512_32_32896))
    = View.ld xs0 (Rect.unit ![32, 32896] S32x512.size inb_S96x34176_S32x512_32_32896) from shapeCast_self _ _]
  refine congrArg xs0 (funext fun a => Fin.ext ?_)
  match a with
  | ⟨0, _⟩ => show 32 + 1 * cc.val = _; exact (by omega : 32 + 1 * cc.val = 32 + cc.val).trans z0.symm
  | ⟨1, _⟩ => show 32896 + 1 * w.val = _; exact (by omega : 32896 + 1 * w.val = 32896 + w.val).trans z1.symm

/-- Case B's slab at row `k + 1` of the middle band: the block's row `k`. -/
theorem sout_B_row (c : Dev nD) (i : grid0.Coords) (arg2 : Memref sig .tc .vmem S1x32x64x512 .f32) (harg2 : arg2.IsWhole) (arg3 : Memref sig .tc .vmem S96x96 .f32) (harg3 : arg3.IsWhole) (arg4 : Memref sig .tc .vmem S32x512 .f32) (harg4 : arg4.IsWhole) (arg5 : Memref sig .tc .vmem S1x34176 .f32) (harg5 : arg5.IsWhole) (arg6 : Memref sig .tc .vmem S1x34176 .f32) (harg6 : arg6.IsWhole) (arg7 : Memref sig .tc .vmem S1x32x64x512 .f32) (harg7 : arg7.IsWhole) (arg8 : Memref sig .tc .vmem S96x34176 .f32) (harg8 : arg8.IsWhole) (hc0 : ¬cond0_0 i) (hc1 : cond0_1 i) (hc2 : cond0_2 i) (hc3 : cond0_3 i) (hc4 : cond0_4 i) (hc5 : ¬cond0_5 i)
    (x0 : Vec F S1x32x64x512 .f32) (x1 : Vec F S96x96 .f32) (x2 : Vec F S32x512 .f32) (x3 : Vec F S1x34176 .f32) (x4 : Vec F S1x34176 .f32) (xs0 : Vec F S96x34176 .f32)
    (cc : Fin 32) (k : ℕ) (hk : k < 64) (w : Fin 512) (y : S96x34176.Idx) (y0 : (y 0).val = 32 + cc.val) (y1 : (y 1).val = 640 + 512 * k + w.val) :
    sout0_B_0 c i arg2 harg2 arg3 harg3 arg4 harg4 arg5 harg5 arg6 harg6 arg7 harg7 arg8 harg8 hc0 hc1 hc2 hc3 hc4 hc5 x0 x1 x2 x3 x4 xs0 y = x0 (ix4 0 cc ⟨k, hk⟩ w) := by
  obtain ⟨rest, h⟩ := sout_B c i arg2 harg2 arg3 harg3 arg4 harg4 arg5 harg5 arg6 harg6 arg7 harg7 arg8 harg8 hc0 hc1 hc2 hc3 hc4 hc5 x0 x1 x2 x3 x4 xs0
  rw [h]
  exact read_stageL_row _ _ x0 _ k hk cc w y y0 y1 64 le_rfl hk

end Cert.KernelIdeal.Value

end
-- ==== Proof.Stack.lean ====
/-
  The block the kernel's body writes at a point that computes (cases B and C), as one function of the block of weights,
  the block of biases and the three-band slab.

  The body cuts the summed product `[32, 32768]` into 64 rows of 512 lanes, adds the bias block to each, stacks them and
  brings the channel axis to the front. `tripled` is the slab the product is taken of: the middle band with its row 65
  replaced, and the two bands shifted by one lane either way, multiplied by their masks.
-/
module

public import proofs.«01_k».proof.Proof.Stage

@[expose] public section

set_option maxRecDepth 16384

noncomputable section

namespace Cert.KernelIdeal.Value

open Idealize.ShloMosaic Idealize.ShloMosaic.TcCoe Idealize.SL.Sem
open Cert.KernelIdeal Cert.KernelIdeal.Gen

variable {F : FTy → Type} [FloatOps F]

section Tripled

variable {sig' : RefSig} {κ : Kind} {sp : Space}

/-- The slab with row 65 of its middle band replaced by `nr`. -/
def withRow (v : View sig' κ sp S96x34176 .f32) (f : v.ty.Contents (Elt F)) (nr : FVec F S32x512 .f32) : Vec F S96x34176 .f32 :=
  v.read (Elt F) (v.writes (Elt F) f [⟨Rect.unit ![32, 33408] S32x512.size inb_S96x34176_S32x512_32_33408, nr⟩])

/-- The middle band of a slab. -/
abbrev midBand (X : Vec F S96x34176 .f32) : Vec F S32x34176 .f32 :=
  View.ld X (Rect.unit ![32, 0] S32x34176.size inb_S96x34176_S32x34176_32_0)

/-- The three bands the product is taken of: the middle one between its two shifts. -/
def tripled (v : View sig' κ sp S96x34176 .f32) (f : v.ty.Contents (Elt F)) (nr : FVec F S32x512 .f32)
    (x3 x4 : Vec F S1x34176 .f32) : Vec F S96x34176 .f32 :=
  v.read (Elt F) (v.writes (Elt F) f
    [⟨Rect.unit ![64, 0] S32x34176.size inb_S96x34176_S32x34176_64_0, k0_pay13 (midBand (withRow v f nr)) x4⟩,
     ⟨Rect.unit ![0, 0] S32x34176.size inb_S96x34176_S32x34176_0_0, k0_pay12 (midBand (withRow v f nr)) x3⟩,
     ⟨Rect.unit ![32, 33408] S32x512.size inb_S96x34176_S32x512_32_33408, nr⟩])

end Tripled

/-- The lanes of a slab that hold its 66 rows. -/
abbrev rowsOf (T : Vec F S96x34176 .f32) : Vec F S96x33792 .f32 :=
  View.ld T (Rect.unit ![0, 128] S96x33792.size inb_S96x34176_S96x33792_0_128)

theorem out_slices (r : Fin 64) : S32x32768.Slices ![0, 512 * r.val] S32x512 :=
  ⟨rfl, fun a => by
    have := r.isLt
    match a with
    | ⟨0, _⟩ => show 0 + 32 ≤ 32; omega
    | ⟨1, _⟩ => show 512 * r.val + 512 ≤ 32768; omega⟩

/-- The three row-shifted thirds of the product, summed. -/
abbrev summed (x1 : Vec F S96x96 .f32) (T : Vec F S96x34176 .f32) : FVec F S32x32768 .f32 :=
  k0_pay18 (k0_pay16 x1 (rowsOf T)) (k0_pay17 x1 (rowsOf T))

/-- Row `r` of the output block. -/
def outRow (x1 : Vec F S96x96 .f32) (x2 : Vec F S32x512 .f32) (T : Vec F S96x34176 .f32) (r : Fin 64) : FVec F S1x32x512 .f32 :=
  shapeCast S1x32x512 (addf (extractStridedSlice S32x512 ![0, 512 * r.val] (summed x1 T) (out_slices r)) (k0_pay15 x2))
    shapeCasts_S32x512_S1x32x512

/-- 64 rows stack to one block. -/
theorem rowsStack (g : Fin 64 → FVec F S1x32x512 .f32) :
    Shape.Concatenates (List.map Sigma.fst (List.ofFn fun r : Fin 64 => (⟨S1x32x512, g r⟩ : (s : Shape) × (s.Idx → F .f32)))) S64x32x512 0 := by
  have e : List.map Sigma.fst (List.ofFn fun r : Fin 64 => (⟨S1x32x512, g r⟩ : (s : Shape) × (s.Idx → F .f32)))
      = List.replicate 64 S1x32x512 := by
    rw [List.map_ofFn]; rfl
  rw [e]
  decide

/-- The block made of 64 rows. -/
def stacked (g : Fin 64 → FVec F S1x32x512 .f32) : FVec F S1x32x64x512 .f32 :=
  k0_pay4 (concatenate S64x32x512 0 (List.ofFn fun r : Fin 64 => (⟨S1x32x512, g r⟩ : (s : Shape) × (s.Idx → F .f32))) (rowsStack g))

theorem stacked_apply (g : Fin 64 → FVec F S1x32x512 .f32) (o : Fin 32) (r : Fin 64) (w : Fin 512) :
    stacked g (ix4 0 o r w) = g r (ix3 0 o w) := by
  unfold stacked k0_pay4
  pointwise

/-- The output block at a point between the first and the last of a map: row 65 is the first row of the band just read. -/
theorem out_B (c : Dev nD) (i : grid0.Coords) (arg2 : Memref sig .tc .vmem S1x32x64x512 .f32) (harg2 : arg2.IsWhole) (arg3 : Memref sig .tc .vmem S96x96 .f32) (harg3 : arg3.IsWhole) (arg4 : Memref sig .tc .vmem S32x512 .f32) (harg4 : arg4.IsWhole) (arg5 : Memref sig .tc .vmem S1x34176 .f32) (harg5 : arg5.IsWhole) (arg6 : Memref sig .tc .vmem S1x34176 .f32) (harg6 : arg6.IsWhole) (arg7 : Memref sig .tc .vmem S1x32x64x512 .f32) (harg7 : arg7.IsWhole) (arg8 : Memref sig .tc .vmem S96x34176 .f32) (harg8 : arg8.IsWhole) (hc0 : ¬cond0_0 i) (hc1 : cond0_1 i) (hc2 : cond0_2 i) (hc3 : cond0_3 i) (hc4 : cond0_4 i) (hc5 : ¬cond0_5 i)
    (x0 : Vec F S1x32x64x512 .f32) (x1 : Vec F S96x96 .f32) (x2 : Vec F S32x512 .f32) (x3 : Vec F S1x34176 .f32) (x4 : Vec F S1x34176 .f32) (xs0 : Vec F S96x34176 .f32) :
    out0_B_5 c i arg2 harg2 arg3 harg3 arg4 harg4 arg5 harg5 arg6 harg6 arg7 harg7 arg8 harg8 hc0 hc1 hc2 hc3 hc4 hc5 x0 x1 x2 x3 x4 xs0
      = stacked (outRow x1 x2 (tripled arg8.view (harg8.unread xs0) (k0_pay10 (k0_pay2 x0)) x3 x4)) := by
  unfold out0_B_5
  rw [View.read_writes_junk_eq_canon]
  unfold kernelRun0_B
  dsimp only
  sl_unfold_words
  rw [View.canon_unit_zero hz4]
  simp only [View.readAt_eq_ld, harg2.read_unread, harg3.read_unread, harg4.read_unread, harg5.read_unread, harg6.read_unread,
    View.ld_unit_zero (S := S1x32x64x512) hz4, View.ld_unit_zero (S := S96x96) hz2, View.ld_unit_zero (S := S32x512) hz2,
    View.ld_unit_zero (S := S1x34176) hz2]
  rfl

/-- The output block at a point that closes a map: row 65 is zero. -/
theorem out_C (c : Dev nD) (i : grid0.Coords) (arg2 : Memref sig .tc .vmem S1x32x64x512 .f32) (harg2 : arg2.IsWhole) (arg3 : Memref sig .tc .vmem S96x96 .f32) (harg3 : arg3.IsWhole) (arg4 : Memref sig .tc .vmem S32x512 .f32) (harg4 : arg4.IsWhole) (arg5 : Memref sig .tc .vmem S1x34176 .f32) (harg5 : arg5.IsWhole) (arg6 : Memref sig .tc .vmem S1x34176 .f32) (harg6 : arg6.IsWhole) (arg7 : Memref sig .tc .vmem S1x32x64x512 .f32) (harg7 : arg7.IsWhole) (arg8 : Memref sig .tc .vmem S96x34176 .f32) (harg8 : arg8.IsWhole) (hc0 : ¬cond0_0 i) (hc1 : cond0_1 i) (hc2 : ¬cond0_2 i) (hc4 : ¬cond0_4 i) (hc5 : cond0_5 i)
    (x0 : Vec F S1x32x64x512 .f32) (x1 : Vec F S96x96 .f32) (x2 : Vec F S32x512 .f32) (x3 : Vec F S1x34176 .f32) (x4 : Vec F S1x34176 .f32) (xs0 : Vec F S96x34176 .f32) :
    out0_C_5 c i arg2 harg2 arg3 harg3 arg4 harg4 arg5 harg5 arg6 harg6 arg7 harg7 arg8 harg8 hc0 hc1 hc2 hc4 hc5 x0 x1 x2 x3 x4 xs0
      = stacked (outRow x1 x2 (tripled arg8.view (harg8.unread xs0) k0_pay11 x3 x4)) := by
  unfold out0_C_5
  rw [View.read_writes_junk_eq_canon]
  unfold kernelRun0_C
  dsimp only
  sl_unfold_words
  rw [View.canon_unit_zero hz4]
  simp only [View.readAt_eq_ld, harg2.read_unread, harg3.read_unread, harg4.read_unread, harg5.read_unread, harg6.read_unread,
    View.ld_unit_zero (S := S1x32x64x512) hz4, View.ld_unit_zero (S := S96x96) hz2, View.ld_unit_zero (S := S32x512) hz2,
    View.ld_unit_zero (S := S1x34176) hz2]
  rfl

end Cert.KernelIdeal.Value

end
-- ==== Proof.Band.lean ====
/-
  The block the body writes, read at an element on the reals: a sum over the three rows and the three shifted bands of
  the weight times the image, and the bias.
-/
module

public import proofs.«01_k».proof.Proof.Stack
public import Idealize.ShloMosaic.Lib.KernelVsHost

@[expose] public section

set_option maxRecDepth 16384

noncomputable section

namespace Cert.KernelIdeal.Value

open Idealize.ShloMosaic Idealize.ShloMosaic.TcCoe Idealize.SL.Sem
open Cert.KernelIdeal Cert.KernelIdeal.Gen

/-- Row `32 kh + o` of the weight block against lane `l` of the slab. -/
def rowDot (x1 : Vec Ideal S96x96 .f32) (T : Vec Ideal S96x34176 .f32) (o : Fin 96) (l : Fin 34176) : EReal :=
  ∑ k : Fin 96, x1 (ix2 o k) * T (ix2 k l)

/-- An element of a row of the output block. -/
theorem outRow_apply (x1 : Vec Ideal S96x96 .f32) (x2 : Vec Ideal S32x512 .f32) (T : Vec Ideal S96x34176 .f32)
    (r : Fin 64) (o : Fin 32) (w : Fin 512) :
    outRow x1 x2 T r (ix3 0 o w)
      = rowDot x1 T ⟨o.val, by omega⟩ ⟨128 + 512 * r.val + w.val, by omega⟩
        + rowDot x1 T ⟨32 + o.val, by omega⟩ ⟨640 + 512 * r.val + w.val, by omega⟩
        + rowDot x1 T ⟨64 + o.val, by omega⟩ ⟨1152 + 512 * r.val + w.val, by omega⟩ + x2 (ix2 o w) := by
  unfold outRow summed rowsOf k0_pay18 k0_pay17 k0_pay16 k0_pay14 k0_pay15
  pointwise
  unfold rowDot
  refine congrArg₂ (· + ·) (congrArg₂ (· + ·) (congrArg₂ (· + ·) ?_ ?_) ?_) rfl <;>
    exact Finset.sum_congr rfl fun k _ => congrArg (_ * T ·) (congrArg (ix2 k) (Fin.ext (by simp only; omega)))

/-- A band rotated along its lanes and multiplied by a mask, at an element. -/
theorem left_apply (X : Vec Ideal S32x34176 .f32) (x3 : Vec Ideal S1x34176 .f32) (c : Fin 32) (l l' : Fin 34176)
    (hl : l'.val = (l.val + 34176 - 1) % 34176) : k0_pay12 X x3 (ix2 c l) = X (ix2 c l') * x3 (ix2 0 l) := by
  unfold k0_pay12
  have e := dynamicRotate_apply 1 1#32 X rotates_S32x34176_d1 (ix2 c l) (ix2 c l') (Fin.forall_fin_two.mpr ⟨rfl, hl⟩)
  generalize dynamicRotate 1 1#32 none X rotates_S32x34176_d1 = R at e ⊢
  rw [← e]
  pointwise

theorem right_apply (X : Vec Ideal S32x34176 .f32) (x4 : Vec Ideal S1x34176 .f32) (c : Fin 32) (l l' : Fin 34176)
    (hl : l'.val = (l.val + 34176 - 34175) % 34176) : k0_pay13 X x4 (ix2 c l) = X (ix2 c l') * x4 (ix2 0 l) := by
  unfold k0_pay13
  have e := dynamicRotate_apply 1 34175#32 X rotates_S32x34176_d1 (ix2 c l) (ix2 c l') (Fin.forall_fin_two.mpr ⟨rfl, hl⟩)
  generalize dynamicRotate 1 34175#32 none X rotates_S32x34176_d1 = R at e ⊢
  rw [← e]
  pointwise

/-- The middle band of a slab at an element. -/
theorem midBand_apply (X : Vec Ideal S96x34176 .f32) (c : Fin 32) (l : Fin 34176) :
    midBand X (ix2 c l) = X (ix2 ⟨32 + c.val, by omega⟩ l) := by
  unfold midBand
  pointwise

section Tripled

variable {sig' : RefSig} {κ : Kind} {sp : Space} (v : View sig' κ sp S96x34176 .f32) (f : v.ty.Contents (Elt Ideal))
  (nr : FVec Ideal S32x512 .f32) (x3 x4 : Vec Ideal S1x34176 .f32)

/-- The three bands of the slab the product is taken of, at an element. -/
theorem tripled_left (c : Fin 32) (l l' : Fin 34176) (hl : l'.val = (l.val + 34176 - 1) % 34176) :
    tripled v f nr x3 x4 (ix2 ⟨c.val, by omega⟩ l)
      = withRow v f nr (ix2 ⟨32 + c.val, by omega⟩ l') * x3 (ix2 0 l) := by
  unfold tripled
  refine (View.read_writes_cons_unit_of_not_mem v f inb_S96x34176_S32x34176_64_0 _ _ (ix2 ⟨c.val, by omega⟩ l) rfl
    0 (by left; show c.val < 64; omega)).trans ?_
  refine (View.read_writes_cons_unit_of_mem v f inb_S96x34176_S32x34176_0_0 _ _ (ix2 ⟨c.val, by omega⟩ l) (ix2 c l) rfl
    (Fin.forall_fin_two.mpr ⟨(Nat.zero_add _).symm, (Nat.zero_add _).symm⟩)).trans ?_
  rw [left_apply _ _ _ _ l' hl, midBand_apply]

theorem tripled_right (c : Fin 32) (l l' : Fin 34176) (hl : l'.val = (l.val + 34176 - 34175) % 34176) :
    tripled v f nr x3 x4 (ix2 ⟨64 + c.val, by omega⟩ l)
      = withRow v f nr (ix2 ⟨32 + c.val, by omega⟩ l') * x4 (ix2 0 l) := by
  unfold tripled
  refine (View.read_writes_cons_unit_of_mem v f inb_S96x34176_S32x34176_64_0 _ _ (ix2 ⟨64 + c.val, by omega⟩ l) (ix2 c l) rfl
    (Fin.forall_fin_two.mpr ⟨rfl, (Nat.zero_add _).symm⟩)).trans ?_
  rw [right_apply _ _ _ _ l' hl, midBand_apply]

theorem tripled_mid (c : Fin 32) (l : Fin 34176) :
    tripled v f nr x3 x4 (ix2 ⟨32 + c.val, by omega⟩ l) = withRow v f nr (ix2 ⟨32 + c.val, by omega⟩ l) := by
  unfold tripled withRow
  refine (View.read_writes_cons_unit_of_not_mem v f inb_S96x34176_S32x34176_64_0 _ _ (ix2 ⟨32 + c.val, by omega⟩ l) rfl
    0 (by left; show 32 + c.val < 64; omega)).trans ?_
  exact View.read_writes_cons_unit_of_not_mem v f inb_S96x34176_S32x34176_0_0 _ _ (ix2 ⟨32 + c.val, by omega⟩ l) rfl
    0 (by right; show 0 + 32 ≤ 32 + c.val; omega)

/-- Row 65 of the middle band is the replaced one, -/
theorem withRow_row (c : Fin 32) (w : Fin 512) :
    withRow v f nr (ix2 ⟨32 + c.val, by omega⟩ ⟨33408 + w.val, by omega⟩) = nr (ix2 c w) := by
  unfold withRow
  exact View.read_writes_cons_unit_of_mem v f inb_S96x34176_S32x512_32_33408 _ _ _ (ix2 c w) rfl
    (Fin.forall_fin_two.mpr ⟨rfl, rfl⟩)

/-- and every lane before it is as it was. -/
theorem withRow_before (z : S96x34176.Idx) (hz : (z 1).val < 33408) : withRow v f nr z = v.read (Elt Ideal) f z := by
  unfold withRow
  exact View.read_writes_cons_unit_of_not_mem v f inb_S96x34176_S32x512_32_33408 _ _ _ rfl 1 (by left; exact hz)

end Tripled

end Cert.KernelIdeal.Value

end
-- ==== Proof.Body.lean ====
/-
  The block the body writes, as the convolution of the rows its slab holds.

  `P c ρ C` stands for the padded image: channel `c`, row `ρ` of the slab (0 to 65), column `C` (0 to 513, the columns 0
  and 513 being padding). The middle band holds the columns 1 to 512; the two others hold it shifted by a column, and the
  mask puts the padding's zero where the shift brought in a lane of the row before or after.
-/
module

public import proofs.«01_k».proof.Proof.Band

@[expose] public section

set_option maxRecDepth 16384

noncomputable section

namespace Cert.KernelIdeal.Value

open Idealize.ShloMosaic Idealize.ShloMosaic.TcCoe Idealize.SL.Sem
open Cert.KernelIdeal Cert.KernelIdeal.Gen

/-- One of the nine taps: the sum over the input channels. -/
def tap (wt : Fin 32 → Fin 3 → Fin 3 → EReal) (P : Fin 32 → ℕ → ℕ → EReal) (R C : ℕ) (kh kw : Fin 3) : EReal :=
  ∑ c : Fin 32, P c (R + kh.val) (C + kw.val) * wt c kh kw

/-- An element of the convolution: the nine taps and the bias. -/
def conv (wt : Fin 32 → Fin 3 → Fin 3 → EReal) (b : EReal) (P : Fin 32 → ℕ → ℕ → EReal) (R C : ℕ) : EReal :=
  tap wt P R C 0 0 + tap wt P R C 0 1 + tap wt P R C 0 2 + tap wt P R C 1 0 + tap wt P R C 1 1 + tap wt P R C 1 2
    + tap wt P R C 2 0 + tap wt P R C 2 1 + tap wt P R C 2 2 + b

/-- A sum over the 96 rows of the slab is three sums over the channels. -/
theorem sum_thirds (g : Fin 96 → EReal) :
    ∑ k : Fin 96, g k = ∑ c : Fin 32, g ⟨c.val, by omega⟩ + ∑ c : Fin 32, g ⟨32 + c.val, by omega⟩
      + ∑ c : Fin 32, g ⟨64 + c.val, by omega⟩ := by
  rw [show (∑ k : Fin 96, g k) = ∑ k : Fin (32 + 32 + 32), g k from rfl, Fin.sum_univ_add, Fin.sum_univ_add]
  rfl

section Body

variable (P : Fin 32 → ℕ → ℕ → EReal)
variable {sig' : RefSig} {κ : Kind} {sp : Space} (v : View sig' κ sp S96x34176 .f32) (f : v.ty.Contents (Elt Ideal))
  (nr : FVec Ideal S32x512 .f32) (x3 x4 : Vec Ideal S1x34176 .f32)

/-- The lane of column `w` of row `ρ` of a slab. -/
abbrev lane (ρ : ℕ) (w : Fin 512) (h : ρ ≤ 65) : Fin 34176 := ⟨128 + 512 * ρ + w.val, by omega⟩

/-- Row `c` of the middle band, and row `o` of the `k`-th third of the slab or of the weight block. -/
abbrev midRow (c : Fin 32) : Fin 96 := ⟨32 + c.val, by omega⟩
abbrev thirdRow (k : Fin 3) (o : Fin 32) : Fin 96 := ⟨32 * k.val + o.val, by omega⟩

/-- The middle band holds the rows of `P`. -/
theorem withRow_apply
    (old : ∀ (c : Fin 32) (ρ : ℕ) (w : Fin 512) (h : ρ ≤ 64),
      v.read (Elt Ideal) f (ix2 ⟨32 + c.val, by omega⟩ (lane ρ w (by omega))) = P c ρ (w.val + 1))
    (new : ∀ (c : Fin 32) (w : Fin 512), nr (ix2 c w) = P c 65 (w.val + 1))
    (c : Fin 32) (ρ : ℕ) (w : Fin 512) (h : ρ ≤ 65) :
    withRow v f nr (ix2 ⟨32 + c.val, by omega⟩ (lane ρ w h)) = P c ρ (w.val + 1) := by
  by_cases e : ρ = 65
  · subst e
    rw [← new]
    exact withRow_row v f nr c w
  · refine (withRow_before v f nr _ (show 128 + 512 * ρ + w.val < 33408 by omega)).trans (old c ρ w (by omega))

variable (hX : ∀ (c : Fin 32) (ρ : ℕ) (w : Fin 512) (h : ρ ≤ 65),
    withRow v f nr (ix2 (midRow c) (lane ρ w h)) = P c ρ (w.val + 1))
  (hl : ∀ (ρ : ℕ) (w : Fin 512) (h : ρ ≤ 65), x3 (ix2 0 (lane ρ w h)) = if w.val = 0 then 0 else 1)
  (hr : ∀ (ρ : ℕ) (w : Fin 512) (h : ρ ≤ 65), x4 (ix2 0 (lane ρ w h)) = if w.val = 511 then 0 else 1)
  (P0 : ∀ c ρ, P c ρ 0 = 0) (P513 : ∀ c ρ, P c ρ 513 = 0)

include hX hl P0 in
theorem left_eq (c : Fin 32) (ρ : ℕ) (w : Fin 512) (h : ρ ≤ 65) :
    tripled v f nr x3 x4 (ix2 ⟨c.val, by omega⟩ (lane ρ w h)) = P c ρ w.val := by
  rw [tripled_left v f nr x3 x4 c (lane ρ w h) ⟨128 + 512 * ρ + w.val - 1, by omega⟩
    (by show 128 + 512 * ρ + w.val - 1 = (128 + 512 * ρ + w.val + 34176 - 1) % 34176; omega), hl]
  by_cases e : w.val = 0
  · rw [if_pos e, mul_zero, e, P0]
  · rw [if_neg e, mul_one, show (⟨128 + 512 * ρ + w.val - 1, by omega⟩ : Fin 34176) = lane ρ ⟨w.val - 1, by omega⟩ h from
      Fin.ext (by show 128 + 512 * ρ + w.val - 1 = 128 + 512 * ρ + (w.val - 1); omega), hX]
    show P c ρ (w.val - 1 + 1) = _
    rw [Nat.sub_add_cancel (by omega)]

include hX hr P513 in
theorem right_eq (c : Fin 32) (ρ : ℕ) (w : Fin 512) (h : ρ ≤ 65) :
    tripled v f nr x3 x4 (ix2 ⟨64 + c.val, by omega⟩ (lane ρ w h)) = P c ρ (w.val + 2) := by
  rw [tripled_right v f nr x3 x4 c (lane ρ w h) ⟨128 + 512 * ρ + w.val + 1, by omega⟩
    (by show 128 + 512 * ρ + w.val + 1 = (128 + 512 * ρ + w.val + 34176 - 34175) % 34176; omega), hr]
  by_cases e : w.val = 511
  · rw [if_pos e, mul_zero, e, P513]
  · rw [if_neg e, mul_one, show (⟨128 + 512 * ρ + w.val + 1, by omega⟩ : Fin 34176) = lane ρ ⟨w.val + 1, by omega⟩ h from
      rfl, hX]

include hX in
theorem mid_eq (c : Fin 32) (ρ : ℕ) (w : Fin 512) (h : ρ ≤ 65) :
    tripled v f nr x3 x4 (ix2 ⟨32 + c.val, by omega⟩ (lane ρ w h)) = P c ρ (w.val + 1) :=
  (tripled_mid v f nr x3 x4 c (lane ρ w h)).trans (hX c ρ w h)

variable (wt : Fin 32 → Fin 32 → Fin 3 → Fin 3 → EReal) (x1 : Vec Ideal S96x96 .f32)
  (hw : ∀ (o c : Fin 32) (kh kw : Fin 3),
    x1 (ix2 (thirdRow kh o) (thirdRow kw c)) = wt o c kh kw)

include hX hl hr P0 P513 hw in
/-- A row of weights against a lane of the slab: three taps. -/
theorem rowDot_eq (o : Fin 32) (R : ℕ) (kh : Fin 3) (w : Fin 512) (h : R + kh.val ≤ 65) :
    rowDot x1 (tripled v f nr x3 x4) ⟨32 * kh.val + o.val, by omega⟩ (lane (R + kh.val) w h)
      = tap (wt o) P R w.val kh 0 + tap (wt o) P R w.val kh 1 + tap (wt o) P R w.val kh 2 := by
  unfold rowDot tap
  rw [sum_thirds]
  refine congrArg₂ (· + ·) (congrArg₂ (· + ·) ?_ ?_) ?_ <;> refine Finset.sum_congr rfl fun c _ => ?_
  · rw [left_eq P v f nr x3 x4 hX hl P0, ← hw o c kh 0, mul_comm]
    exact congrArg (_ * x1 ·) (congrArg (ix2 _) (Fin.ext (by simp)))
  · rw [mid_eq P v f nr x3 x4 hX, ← hw o c kh 1, mul_comm]
    rfl
  · rw [right_eq P v f nr x3 x4 hX hr P513, ← hw o c kh 2, mul_comm]
    rfl

include hX hl hr P0 P513 hw in
/-- The block the body writes is the convolution of the rows of `P`. -/
theorem body_eq (x2 : Vec Ideal S32x512 .f32) (b : Fin 32 → EReal) (hb : ∀ o w, x2 (ix2 o w) = b o)
    (o : Fin 32) (r : Fin 64) (w : Fin 512) :
    stacked (outRow x1 x2 (tripled v f nr x3 x4)) (ix4 0 o r w) = conv (wt o) (b o) P r.val w.val := by
  have d := rowDot_eq P v f nr x3 x4 hX hl hr P0 P513 wt x1 hw o r.val
  have d0 := d 0 w (by show r.val + 0 ≤ 65; omega)
  have d1 := d 1 w (by show r.val + 1 ≤ 65; omega)
  have d2 := d 2 w (by show r.val + 2 ≤ 65; omega)
  rw [stacked_apply, outRow_apply, hb]
  unfold conv
  rw [add_assoc (tap (wt o) P r.val w.val 0 0 + _ + _ + _ + _ + _ + _)]
  refine congrArg (· + b o) ?_
  have e0 : (⟨o.val, by omega⟩ : Fin 96) = ⟨32 * (0 : Fin 3).val + o.val, by simp; omega⟩ := Fin.ext (by simp)
  have l1 : (⟨640 + 512 * r.val + w.val, by omega⟩ : Fin 34176) = lane (r.val + (1 : Fin 3).val) w (by simp; omega) :=
    Fin.ext (by simp; omega)
  have l2 : (⟨1152 + 512 * r.val + w.val, by omega⟩ : Fin 34176) = lane (r.val + (2 : Fin 3).val) w (by simp; omega) :=
    Fin.ext (by simp; omega)
  rw [e0, l1, l2]
  refine (congrArg₂ (· + ·) (congrArg₂ (· + ·) d0 d1) d2).trans ?_
  simp only [add_assoc]

end Body

end Cert.KernelIdeal.Value

end
-- ==== Proof.Host.lean ====
/-
  What the host lines before the kernel leave in its operands: the weights laid out as nine blocks of 32 by 32, the bias
  copied along the lanes, and the two masks.
-/
module

public import proofs.«01_k».proof.Proof.Body
public import Idealize.ShloMosaic.Lib.StableHlo.Run
public import Idealize.ShloMosaic.Lib.WordCmp
public import Idealize.ShloMosaic.Lib.Routing.Words

@[expose] public section

set_option maxRecDepth 16384

noncomputable section

namespace Cert.KernelIdeal.Value

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ)

/-- The weights' operand at row `32 kh + o`, column `32 kw + c`. -/
theorem V_weights (d : Dev nD) (o c : Fin 32) (kh kw : Fin 3) :
    (V m d main_v1 : Vec Ideal S96x96 .f32) (ix2 ⟨32 * kh.val + o.val, by omega⟩ ⟨32 * kw.val + c.val, by omega⟩)
      = (m (d, main_arg1) : Vec Ideal S32x32x3x3 .f32) (ix4 o c kh kw) := by
  unfold_abbrev_sides
  dsimp only [hostOps0, hostOps0_1, hostOps0_2, hostOps0_3, hostOps0_4, hostOps0_5, hostOps0_6, hostOps0_7, hostOps0_8, List.flatten_cons, List.flatten_nil, List.append_nil, List.cons_append, List.nil_append]
  after_results_simp
  pointwise

/-- The bias's operand holds the bias of the channel in every lane. -/
theorem V_bias (d : Dev nD) (o : Fin 32) (w : Fin 512) :
    (V m d main_v3 : Vec Ideal S32x512 .f32) (ix2 o w) = (m (d, main_arg2) : Vec Ideal S32 .f32) (ix1 o) := by
  unfold_abbrev_sides
  dsimp only [hostOps0, hostOps0_1, hostOps0_2, hostOps0_3, hostOps0_4, hostOps0_5, hostOps0_6, hostOps0_7, hostOps0_8, List.flatten_cons, List.flatten_nil, List.append_nil, List.cons_append, List.nil_append]
  after_results_simp
  pointwise

/-- The divisor the host's remainder takes, the guard against a zero divisor passed. -/
theorem divisor_word : Scalar.select (IntOp.cmpi CmpIPredicate.eq 512#32 0#32) 1#32 512#32 = 512#32 := by decide

/-- The host's remainder of a lane, less 128, by 512 is the lane's column. -/
theorem column_word (ρ : ℕ) (w : Fin 512) (h : ρ ≤ 65) :
    Scalar.select
      (IntOp.andi
        (IntOp.cmpi CmpIPredicate.ne
          (IntOp.cmpi CmpIPredicate.slt
            (IntOp.remsi ArithUnit.host (IntOp.subi (BitVec.ofNat 32 (128 + 512 * ρ + w.val)) 128#32)
              (Scalar.select (IntOp.cmpi CmpIPredicate.eq 512#32 0#32) 1#32 512#32))
            0#32)
          (IntOp.cmpi CmpIPredicate.slt (Scalar.select (IntOp.cmpi CmpIPredicate.eq 512#32 0#32) 1#32 512#32) 0#32))
        (IntOp.cmpi CmpIPredicate.ne
          (IntOp.remsi ArithUnit.host (IntOp.subi (BitVec.ofNat 32 (128 + 512 * ρ + w.val)) 128#32)
            (Scalar.select (IntOp.cmpi CmpIPredicate.eq 512#32 0#32) 1#32 512#32))
          0#32))
      (IntOp.addi
        (IntOp.remsi ArithUnit.host (IntOp.subi (BitVec.ofNat 32 (128 + 512 * ρ + w.val)) 128#32)
          (Scalar.select (IntOp.cmpi CmpIPredicate.eq 512#32 0#32) 1#32 512#32))
        (Scalar.select (IntOp.cmpi CmpIPredicate.eq 512#32 0#32) 1#32 512#32))
      (IntOp.remsi ArithUnit.host (IntOp.subi (BitVec.ofNat 32 (128 + 512 * ρ + w.val)) 128#32)
        (Scalar.select (IntOp.cmpi CmpIPredicate.eq 512#32 0#32) 1#32 512#32))
      = BitVec.ofNat 32 w.val := by
  have hs : IntOp.subi (BitVec.ofNat 32 (128 + 512 * ρ + w.val)) 128#32 = BitVec.ofNat 32 (512 * ρ + w.val) :=
    (Routing.ofNat32_sub (a := 128 + 512 * ρ + w.val) (b := 128) (by omega)).trans (congrArg _ (by omega))
  have hm : IntOp.remsi ArithUnit.host (BitVec.ofNat 32 (512 * ρ + w.val)) 512#32 = BitVec.ofNat 32 w.val :=
    (Routing.remsi_word ArithUnit.host (a := 512 * ρ + w.val) (b := 512) (by omega) (by decide) (by decide)).trans
      (congrArg _ (by omega))
  rw [divisor_word, hs, hm]
  have hw : w.val < 512 := w.isLt
  generalize w.val = n at hw
  word_cmp
  exact if_neg fun e => e.1 rfl

/-- A select on the column being a constant. -/
theorem select_column (w : Fin 512) (k : ℕ) (hk : k < 512) :
    (Scalar.select (IntOp.cmpi CmpIPredicate.eq (BitVec.ofNat 32 w.val) (BitVec.ofNat 32 k)) (0 : EReal) 1 : EReal)
      = if w.val = k then 0 else 1 := by
  word_cmp

/-- The mask of the left band: zero in the first column of a row, one elsewhere. -/
theorem V_left (d : Dev nD) (ρ : ℕ) (w : Fin 512) (h : ρ ≤ 65) :
    (V m d main_v12 : Vec Ideal S1x34176 .f32) (ix2 0 (lane ρ w h)) = (if w.val = 0 then (0 : EReal) else 1 : EReal) := by
  unfold_abbrev_sides
  dsimp only [hostOps0, hostOps0_1, hostOps0_2, hostOps0_3, hostOps0_4, hostOps0_5, hostOps0_6, hostOps0_7, hostOps0_8, List.flatten_cons, List.flatten_nil, List.append_nil, List.cons_append, List.nil_append]
  after_results_simp
  simp only [TRef.ofBuf, TRef.toBuf, cast_eq, id_eq]
  pointwise
  rw [column_word ρ w h]
  exact select_column w 0 (by decide)

/-- The mask of the right band: zero in the last column of a row, one elsewhere. -/
theorem V_right (d : Dev nD) (ρ : ℕ) (w : Fin 512) (h : ρ ≤ 65) :
    (V m d main_v19 : Vec Ideal S1x34176 .f32) (ix2 0 (lane ρ w h)) = (if w.val = 511 then (0 : EReal) else 1 : EReal) := by
  unfold_abbrev_sides
  dsimp only [hostOps0, hostOps0_1, hostOps0_2, hostOps0_3, hostOps0_4, hostOps0_5, hostOps0_6, hostOps0_7, hostOps0_8, List.flatten_cons, List.flatten_nil, List.append_nil, List.cons_append, List.nil_append]
  after_results_simp
  simp only [TRef.ofBuf, TRef.toBuf, cast_eq, id_eq]
  pointwise
  rw [column_word ρ w h]
  exact select_column w 511 (by decide)

end Cert.KernelIdeal.Value

end
-- ==== Proof.Carry.lean ====
/-
  What the slab holds after each point of the grid, and what each point writes back.

  A point is a map `n = t / 9` and a step `i = t % 9`. Step `i ≤ 7` reads the band of 64 rows `i` and leaves it in the
  slab under the last row of the band before (zeros at step 0). Step `i ≥ 1` convolves the rows the step before left,
  closed by the first row of band `i` (zeros at step 8), and writes the output band `i - 1`.
-/
module

public import proofs.«01_k».proof.Proof.Host
public import proofs.«01_k».proof.Proof.Gen.KernelIdeal.Value

@[expose] public section

set_option maxRecDepth 16384

noncomputable section

namespace Cert.KernelIdeal.Value

open Idealize.ShloMosaic Idealize.ShloMosaic.TcCoe Idealize.SL.Sem
open Cert.KernelIdeal Cert.KernelIdeal.Gen

/-- Map `n` of the input with a border of zeros: row `R`, column `C`, each from 0 to 513. -/
def padded (x : Vec Ideal S8x32x512x512 .f32) (n : Fin 8) (c : Fin 32) (R C : ℕ) : EReal :=
  if h : (1 ≤ R ∧ R ≤ 512) ∧ (1 ≤ C ∧ C ≤ 512) then x (ix4 n c ⟨R - 1, by omega⟩ ⟨C - 1, by omega⟩) else 0

theorem padded_inside (x : Vec Ideal S8x32x512x512 .f32) (n : Fin 8) (c : Fin 32) (R : ℕ) (hR : R < 512) (w : Fin 512) :
    padded x n c (R + 1) (w.val + 1) = x (ix4 n c ⟨R, hR⟩ w) :=
  (dif_pos ⟨⟨by omega, by omega⟩, ⟨by omega, by have := w.isLt; omega⟩⟩).trans rfl

theorem padded_top (x : Vec Ideal S8x32x512x512 .f32) (n : Fin 8) (c : Fin 32) (C : ℕ) : padded x n c 0 C = 0 :=
  dif_neg fun h => by omega

theorem padded_bottom (x : Vec Ideal S8x32x512x512 .f32) (n : Fin 8) (c : Fin 32) (C : ℕ) : padded x n c 513 C = 0 :=
  dif_neg fun h => by omega

theorem padded_left (x : Vec Ideal S8x32x512x512 .f32) (n : Fin 8) (c : Fin 32) (R : ℕ) : padded x n c R 0 = 0 :=
  dif_neg fun h => by omega

theorem padded_right (x : Vec Ideal S8x32x512x512 .f32) (n : Fin 8) (c : Fin 32) (R : ℕ) : padded x n c R 513 = 0 :=
  dif_neg fun h => by omega

variable (m : (ℓ : Loc nD τ sig) → Buf (Elt Ideal) ℓ)

/-- The image, the weights and the bias as the launch finds them. -/
abbrev img (d : Dev nD) : Vec Ideal S8x32x512x512 .f32 := m ((d : Thread nD τ).loc main_arg0)
abbrev wts (d : Dev nD) : Vec Ideal S32x32x3x3 .f32 := m ((d : Thread nD τ).loc main_arg1)
abbrev bia (d : Dev nD) : Vec Ideal S32 .f32 := m ((d : Thread nD τ).loc main_arg2)

/-- The map a point works on. -/
abbrev mapOf (t : Fin cfg0.N) : Fin 8 := ⟨t.val / 9, by have h : t.val < 72 := t.isLt; omega⟩

theorem index0 : ∀ t : Fin cfg0.N, win0_0.index t 0 = t.val / 9 ∧ win0_0.index t 1 = 0
    ∧ win0_0.index t 2 = min (t.val % 9) 7 ∧ win0_0.index t 3 = 0 := by decide +kernel
theorem index1 : ∀ t : Fin cfg0.N, win0_1.index t 0 = 0 ∧ win0_1.index t 1 = 0 := by decide +kernel
theorem index2 : ∀ t : Fin cfg0.N, win0_2.index t 0 = 0 ∧ win0_2.index t 1 = 0 := by decide +kernel
theorem index3 : ∀ t : Fin cfg0.N, win0_3.index t 0 = 0 ∧ win0_3.index t 1 = 0 := by decide +kernel
theorem index4 : ∀ t : Fin cfg0.N, win0_4.index t 0 = 0 ∧ win0_4.index t 1 = 0 := by decide +kernel
theorem index5 : ∀ t : Fin cfg0.N, win0_5.index t 0 = t.val / 9 ∧ win0_5.index t 1 = 0
    ∧ win0_5.index t 2 = t.val % 9 - 1 ∧ win0_5.index t 3 = 0 := by decide +kernel
theorem flush5 : ∀ t : Fin cfg0.N, (cfg0.win 5).flush t = true ↔ 1 ≤ t.val % 9 := by decide +kernel

/-- The block of the image a point reads. -/
theorem block0 (d : Dev nD) (t : Fin cfg0.N) (c : Fin 32) (k : Fin 64) (w : Fin 512) (R : Fin 512)
    (hR : R.val = 64 * min (t.val % 9) 7 + k.val) :
    (iblk m d 0 t : Vec Ideal S1x32x64x512 .f32) (ix4 0 c k w) = img m d (ix4 (mapOf t) c R w) := by
  obtain ⟨i0, i1, i2, i3⟩ := index0 t
  unfold iblk
  rw [View.read_apply]
  refine (congrFun (V_main_arg0 m d) _).trans (congrArg (img m d) (funext fun a => Fin.ext ?_))
  match a with
  | ⟨0, _⟩ => show win0_0.index t 0 * 1 + 1 * 0 = t.val / 9; omega
  | ⟨1, _⟩ => show win0_0.index t 1 * 32 + 1 * c.val = c.val; omega
  | ⟨2, _⟩ => show win0_0.index t 2 * 64 + 1 * k.val = R.val; omega
  | ⟨3, _⟩ => show win0_0.index t 3 * 512 + 1 * w.val = w.val; omega

/-- The operands read whole. -/
theorem block1 (d : Dev nD) (t : Fin cfg0.N) : (iblk m d 1 t : Vec Ideal S96x96 .f32) = V m d main_v1 := by
  obtain ⟨i0, i1⟩ := index1 t
  funext j
  unfold iblk
  rw [View.read_apply]
  refine congrArg (V m d main_v1) (funext fun a => Fin.ext ?_)
  match a with
  | ⟨0, _⟩ => show win0_1.index t 0 * 96 + 1 * (j 0).val = (j 0).val; omega
  | ⟨1, _⟩ => show win0_1.index t 1 * 96 + 1 * (j 1).val = (j 1).val; omega

theorem block2 (d : Dev nD) (t : Fin cfg0.N) : (iblk m d 2 t : Vec Ideal S32x512 .f32) = V m d main_v3 := by
  obtain ⟨i0, i1⟩ := index2 t
  funext j
  unfold iblk
  rw [View.read_apply]
  refine congrArg (V m d main_v3) (funext fun a => Fin.ext ?_)
  match a with
  | ⟨0, _⟩ => show win0_2.index t 0 * 32 + 1 * (j 0).val = (j 0).val; omega
  | ⟨1, _⟩ => show win0_2.index t 1 * 512 + 1 * (j 1).val = (j 1).val; omega

theorem block3 (d : Dev nD) (t : Fin cfg0.N) : (iblk m d 3 t : Vec Ideal S1x34176 .f32) = V m d main_v12 := by
  obtain ⟨i0, i1⟩ := index3 t
  funext j
  unfold iblk
  rw [View.read_apply]
  refine congrArg (V m d main_v12) (funext fun a => Fin.ext ?_)
  match a with
  | ⟨0, _⟩ => show win0_3.index t 0 * 1 + 1 * (j 0).val = (j 0).val; omega
  | ⟨1, _⟩ => show win0_3.index t 1 * 34176 + 1 * (j 1).val = (j 1).val; omega

theorem block4 (d : Dev nD) (t : Fin cfg0.N) : (iblk m d 4 t : Vec Ideal S1x34176 .f32) = V m d main_v19 := by
  obtain ⟨i0, i1⟩ := index4 t
  funext j
  unfold iblk
  rw [View.read_apply]
  refine congrArg (V m d main_v19) (funext fun a => Fin.ext ?_)
  match a with
  | ⟨0, _⟩ => show win0_4.index t 0 * 1 + 1 * (j 0).val = (j 0).val; omega
  | ⟨1, _⟩ => show win0_4.index t 1 * 34176 + 1 * (j 1).val = (j 1).val; omega

/-- The slab after a step that reads a band: its row `r` is the padded row `64 i + r`. -/
def Holds (d : Dev nD) (t : Fin cfg0.N) : Prop :=
  ∀ (c : Fin 32) (r : ℕ) (w : Fin 512) (h : r ≤ 64),
    (outsAt0 m d t.val t.isLt).2 (ix2 ⟨32 + c.val, by omega⟩ (lane r w (by omega)))
      = padded (img m d) (mapOf t) c (64 * (t.val % 9) + r) (w.val + 1)

/-- A row of the band just read. -/
theorem band_row (d : Dev nD) (t : Fin cfg0.N) (ht : t.val % 9 ≤ 7) (c : Fin 32) (k : ℕ) (hk : k < 64) (w : Fin 512) :
    (iblk m d 0 t : Vec Ideal S1x32x64x512 .f32) (ix4 0 c ⟨k, hk⟩ w)
      = padded (img m d) (mapOf t) c (64 * (t.val % 9) + (k + 1)) (w.val + 1) :=
  (block0 m d t c ⟨k, hk⟩ w ⟨64 * (t.val % 9) + k, by omega⟩ (by show 64 * (t.val % 9) + k = _ + k; omega)).trans
    (padded_inside (img m d) (mapOf t) c (64 * (t.val % 9) + k) (by omega) w).symm

theorem holds_first (d : Dev nD) (t : Fin cfg0.N) (h0 : t.val % 9 = 0) : Holds m d t := by
  intro c r w h
  rw [outsAt0_A m d t h0 (by omega) (by omega) (by omega)]
  dsimp only
  match r, h with
  | 0, h =>
    refine (sout_A_top d _ _ _ _ _ _ _ _ _ _ _ _ _ _ _ _ _ _ _ _ _ _ _ _ c w _ rfl (by show 128 + 512 * 0 + w.val = _; omega)).trans ?_
    rw [h0]
    exact (Ideal.ofBits_zero_f32).trans (padded_top ..).symm
  | k + 1, h =>
    refine (sout_A_row d _ _ _ _ _ _ _ _ _ _ _ _ _ _ _ _ _ _ _ _ _ _ _ _ c k (by omega) w _ rfl (by show 128 + 512 * (k + 1) + w.val = _; omega)).trans ?_
    exact band_row m d t (by omega) c k (by omega) w

/-- The point before. -/
abbrev prev (t : Fin cfg0.N) : Fin cfg0.N := ⟨t.val - 1, Nat.lt_of_le_of_lt (Nat.sub_le _ _) t.isLt⟩

theorem mapOf_prev (t : Fin cfg0.N) (h : 1 ≤ t.val % 9) : mapOf (prev t) = mapOf t :=
  Fin.ext (by show (t.val - 1) / 9 = t.val / 9; omega)

theorem holds_next (d : Dev nD) (t : Fin cfg0.N) (h1 : 1 ≤ t.val % 9) (h2 : t.val % 9 ≤ 7) (ih : Holds m d (prev t)) : Holds m d t := by
  intro c r w h
  rw [outsAt0_B m d t (by omega) h1 h2 h1 h2 (by omega)]
  dsimp only
  match r, h with
  | 0, h =>
    refine (sout_B_top d _ _ _ _ _ _ _ _ _ _ _ _ _ _ _ _ _ _ _ _ _ _ _ _ _ _ _ c w _
      (ix2 ⟨32 + c.val, by omega⟩ (lane 64 w (by omega))) rfl (by show 128 + 512 * 0 + w.val = _; omega) rfl rfl).trans ?_
    refine (ih c 64 w le_rfl).trans ?_
    rw [mapOf_prev t h1]
    exact congrArg (padded (img m d) (mapOf t) c · _) (by show 64 * ((t.val - 1) % 9) + 64 = 64 * (t.val % 9) + 0; omega)
  | k + 1, h =>
    refine (sout_B_row d _ _ _ _ _ _ _ _ _ _ _ _ _ _ _ _ _ _ _ _ _ _ _ _ _ _ _ c k (by omega) w _ rfl (by show 128 + 512 * (k + 1) + w.val = _; omega)).trans ?_
    exact band_row m d t h2 c k (by omega) w

/-- By induction on the point. -/
theorem holds (d : Dev nD) : ∀ (n : ℕ) (h : n < cfg0.N), n % 9 ≤ 7 → Holds m d ⟨n, h⟩
  | 0, h, _ => holds_first m d ⟨0, h⟩ rfl
  | n + 1, h, hn => by
    by_cases h0 : (n + 1) % 9 = 0
    · exact holds_first m d ⟨n + 1, h⟩ h0
    · exact holds_next m d ⟨n + 1, h⟩ (by show 1 ≤ (n + 1) % 9; omega) hn (holds d n (Nat.lt_of_succ_lt h) (by omega))

/-- The convolution of rows read further down. -/
theorem conv_shift (wt : Fin 32 → Fin 3 → Fin 3 → EReal) (b : EReal) (P : Fin 32 → ℕ → ℕ → EReal) (s R C : ℕ) :
    conv wt b (fun c ρ C => P c (s + ρ) C) R C = conv wt b P (s + R) C := by
  simp only [conv, tap, Nat.add_assoc]

/-- The rows a step convolves: the padded rows from `64 (i - 1)` on. -/
abbrev rowsAt (d : Dev nD) (t : Fin cfg0.N) : Fin 32 → ℕ → ℕ → EReal :=
  fun c ρ C => padded (img m d) (mapOf t) c (64 * (t.val % 9 - 1) + ρ) C

/-- What the step before left is those rows, all but the last. -/
theorem old_rows (d : Dev nD) (t : Fin cfg0.N) (h1 : 1 ≤ t.val % 9) (c : Fin 32) (ρ : ℕ) (w : Fin 512) (h : ρ ≤ 64) :
    (outsAt0 m d (t.val - 1) (Nat.lt_of_le_of_lt (Nat.sub_le _ _) t.isLt)).2 (ix2 ⟨32 + c.val, by omega⟩ (lane ρ w (by omega)))
      = rowsAt m d t c ρ (w.val + 1) := by
  refine (holds m d (t.val - 1) (Nat.lt_of_le_of_lt (Nat.sub_le _ _) t.isLt) (by omega) c ρ w h).trans ?_
  rw [show (⟨t.val - 1, Nat.lt_of_le_of_lt (Nat.sub_le _ _) t.isLt⟩ : Fin cfg0.N) = prev t from rfl, mapOf_prev t h1]
  exact congrArg (padded (img m d) (mapOf t) c · _) (by show 64 * ((t.val - 1) % 9) + ρ = _; omega)

/-- The last of them, at a step that reads a band: the band's first row. -/
theorem new_row (d : Dev nD) (t : Fin cfg0.N) (h1 : 1 ≤ t.val % 9) (h2 : t.val % 9 ≤ 7) (c : Fin 32) (w : Fin 512) :
    k0_pay10 (k0_pay2 (iblk m d 0 t : Vec Ideal S1x32x64x512 .f32)) (ix2 c w) = rowsAt m d t c 65 (w.val + 1) := by
  have e : k0_pay10 (k0_pay2 (iblk m d 0 t : Vec Ideal S1x32x64x512 .f32)) (ix2 c w)
      = (iblk m d 0 t : Vec Ideal S1x32x64x512 .f32) (ix4 0 c ⟨0, by decide⟩ w) := by
    generalize (iblk m d 0 t : Vec Ideal S1x32x64x512 .f32) = x
    unfold k0_pay10 k0_pay2
    pointwise
  refine e.trans ((band_row m d t h2 c 0 (by decide) w).trans ?_)
  exact congrArg (padded (img m d) (mapOf t) c · _) (by omega)

/-- At the closing step: the border's zeros. -/
theorem zero_row (d : Dev nD) (t : Fin cfg0.N) (h8 : t.val % 9 = 8) (c : Fin 32) (w : Fin 512) :
    (k0_pay11 : FVec Ideal S32x512 .f32) (ix2 c w) = rowsAt m d t c 65 (w.val + 1) := by
  have e : (k0_pay11 : FVec Ideal S32x512 .f32) (ix2 c w) = (0 : EReal) := by
    unfold k0_pay11
    pointwise
  rw [e]
  show _ = padded (img m d) (mapOf t) c (64 * (t.val % 9 - 1) + 65) (w.val + 1)
  rw [h8]
  exact (padded_bottom ..).symm

/-- The convolution of map `n` at channel `o`, row `R`, column `C`. -/
def result (d : Dev nD) (n : Fin 8) (o : Fin 32) (R C : ℕ) : EReal :=
  conv (fun c kh kw => wts m d (ix4 o c kh kw)) (bia m d (ix1 o)) (padded (img m d) n) R C

/-- The body's block over the slab and the row that closes it is a band of the convolution. -/
theorem band_eq (d : Dev nD) (t : Fin cfg0.N) (h1 : 1 ≤ t.val % 9) (arg8 : Memref sig .tc .vmem S96x34176 .f32) (harg8 : arg8.IsWhole)
    (nr : FVec Ideal S32x512 .f32) (new : ∀ (c : Fin 32) (w : Fin 512), nr (ix2 c w) = rowsAt m d t c 65 (w.val + 1))
    (o : Fin 32) (r : Fin 64) (w : Fin 512) :
    stacked (outRow (iblk m d 1 t) (iblk m d 2 t) (tripled arg8.view
        (harg8.unread (outsAt0 m d (t.val - 1) (Nat.lt_of_le_of_lt (Nat.sub_le _ _) t.isLt)).2) nr (iblk m d 3 t) (iblk m d 4 t)))
        (ix4 0 o r w)
      = result m d (mapOf t) o (64 * (t.val % 9 - 1) + r.val) w.val := by
  refine (body_eq (rowsAt m d t) arg8.view _ nr _ _
    (withRow_apply (rowsAt m d t) arg8.view _ nr (fun c ρ w h => ?_) new) (fun ρ w h => ?_) (fun ρ w h => ?_)
    (fun c ρ => padded_left ..) (fun c ρ => padded_right ..) (fun o c kh kw => wts m d (ix4 o c kh kw)) _ (fun o c kh kw => ?_)
    _ (fun o => bia m d (ix1 o)) (fun o w => ?_) o r w).trans (conv_shift ..)
  · rw [harg8.read_unread]
    exact old_rows m d t h1 c ρ w h
  · rw [block3]; exact V_left m d ρ w h
  · rw [block4]; exact V_right m d ρ w h
  · rw [block1]; exact V_weights m d o c kh kw
  · rw [block2]; exact V_bias m d o w

/-- What a point that computes leaves in the output's buffer. -/
theorem written (d : Dev nD) (t : Fin cfg0.N) (h1 : 1 ≤ t.val % 9) (o : Fin 32) (r : Fin 64) (w : Fin 512) :
    (outsAt0 m d t.val t.isLt).1 (ix4 0 o r w) = result m d (mapOf t) o (64 * (t.val % 9 - 1) + r.val) w.val := by
  by_cases h2 : t.val % 9 ≤ 7
  · rw [outsAt0_B m d t (by omega) h1 h2 h1 h2 (by omega)]
    dsimp only
    rw [out_B]
    exact band_eq m d t h1 _ _ _ (new_row m d t h1 h2) o r w
  · rw [outsAt0_C m d t (by omega) h1 h2 h2 (by omega)]
    dsimp only
    rw [out_C]
    exact band_eq m d t h1 _ _ _ (zero_row m d t (by omega)) o r w

/-- The result array. -/
def resultArr (d : Dev nD) : Buf (Elt Ideal) ((d : Thread nD τ).loc main_v20) :=
  fun j : S8x32x512x512.Idx => result m d (j 0) (j 1) (j 2).val (j 3).val

/-- What a point writes back is its block of the result array. -/
theorem flushed_eq (d : Dev nD) (t : Fin cfg0.N) (hf : (cfg0.win 5).flush t = true) :
    (dats m 0 d).flushed 5 t = ((cfg0.win 5).blk t).view.read (Elt Ideal) (resultArr m d) := by
  have h1 := (flush5 t).mp hf
  obtain ⟨i0, i1, i2, i3⟩ := index5 t
  rw [flushed5]
  funext j
  rw [View.read_apply]
  obtain ⟨a, o, r, w, rfl⟩ : ∃ a o r w, j = (ix4 a o r w : S1x32x64x512.Idx) := ⟨j 0, j 1, j 2, j 3, by
    funext b; match b with | ⟨0, _⟩ => rfl | ⟨1, _⟩ => rfl | ⟨2, _⟩ => rfl | ⟨3, _⟩ => rfl⟩
  obtain rfl : a = 0 := Subsingleton.elim (α := Fin 1) _ _
  refine (written m d t h1 o r w).trans ?_
  generalize e : ((cfg0.win 5).blk t).view.emb (ix4 0 o r w) = z
  have z0 : (z 0).val = t.val / 9 := by rw [← e]; show win0_5.index t 0 * 1 + 1 * 0 = t.val / 9; omega
  have z1 : (z 1).val = o.val := by rw [← e]; show win0_5.index t 1 * 32 + 1 * o.val = o.val; omega
  have z2 : (z 2).val = 64 * (t.val % 9 - 1) + r.val := by
    rw [← e]; show win0_5.index t 2 * 64 + 1 * r.val = 64 * (t.val % 9 - 1) + r.val; omega
  have z3 : (z 3).val = w.val := by rw [← e]; show win0_5.index t 3 * 512 + 1 * w.val = w.val; omega
  show _ = result m d (z 0) (z 1) (z 2).val (z 3).val
  rw [z2, z3, show z 0 = mapOf t from Fin.ext z0, show z 1 = o from Fin.ext z1]

/-- The bands the points write cover the array. -/
theorem cover (i : S8x32x512x512.Idx) : ∃ t : Fin cfg0.N, (cfg0.win 5).flush t = true ∧ i ∈ ((cfg0.win 5).blk t).view.set := by
  have h0 : (i 0).val < 8 := (i 0).isLt
  have h1 : (i 1).val < 32 := (i 1).isLt
  have h2 : (i 2).val < 512 := (i 2).isLt
  have h3 : (i 3).val < 512 := (i 3).isLt
  have ht : 9 * (i 0).val + (i 2).val / 64 + 1 < cfg0.N := by show _ < 72; omega
  refine ⟨⟨9 * (i 0).val + (i 2).val / 64 + 1, ht⟩, (flush5 _).mpr (by show 1 ≤ (9 * (i 0).val + (i 2).val / 64 + 1) % 9; omega), ?_⟩
  obtain ⟨i0, i1, i2, i3⟩ := index5 ⟨9 * (i 0).val + (i 2).val / 64 + 1, ht⟩
  generalize et : (⟨9 * (i 0).val + (i 2).val / 64 + 1, ht⟩ : Fin cfg0.N) = t at *
  have tv : t.val = 9 * (i 0).val + (i 2).val / 64 + 1 := by rw [← et]
  show i ∈ ((View.whole main_v20).slice (win0_5.rect t)).set
  rw [View.set_slice_whole, Rect.mem_set_unit]
  intro a
  match a with
  | ⟨0, _⟩ => show win0_5.index t 0 * 1 ≤ (i 0).val ∧ (i 0).val < win0_5.index t 0 * 1 + 1; omega
  | ⟨1, _⟩ => show win0_5.index t 1 * 32 ≤ (i 1).val ∧ (i 1).val < win0_5.index t 1 * 32 + 32; omega
  | ⟨2, _⟩ => show win0_5.index t 2 * 64 ≤ (i 2).val ∧ (i 2).val < win0_5.index t 2 * 64 + 64; omega
  | ⟨3, _⟩ => show win0_5.index t 3 * 512 ≤ (i 3).val ∧ (i 3).val < win0_5.index t 3 * 512 + 512; omega

/-- The array the run leaves is the convolution. -/
theorem final (d : Dev nD) : (dats m 0 d).arrAt 5 cfg0.N = resultArr m d :=
  (dats m 0 d).arrAt_eq_of_cover 5 (resultArr m d) (flushed_eq m d) cover

end Cert.KernelIdeal.Value

end
-- ==== Proof.Reading.lean ====
/-
  The reference read at an index: the same nine taps and bias as the kernel's result.
-/
module

public import proofs.«01_k».proof.Proof.Carry
public import proofs.«01_k».proof.Proof.Gen.ReferenceIdeal.Read
public import Idealize.ShloMosaic.Lib.KernelVsHost

@[expose] public section

set_option maxRecDepth 16384

noncomputable section

namespace Cert.ReferenceIdeal.Read

open Idealize.ShloMosaic Idealize.ShloMosaic.TcCoe Idealize.SL.Sem
open Cert.ReferenceIdeal Cert.ReferenceIdeal.Gen
open Cert.KernelIdeal.Value (padded padded_inside tap conv)

/-- The value the reference fills its border with. -/
theorem fill (i : S_.Idx) : (val_main_call0_v0 (F := Ideal) i : EReal) = 0 := by
  rw [val_main_call0_v0_apply, val_main_c_apply]
  show (((0#32 : BitVec 32).toInt : ℝ) : EReal) = 0
  simp

/-- The padded image of the reference, at an index. -/
theorem pad_read (x : Vec Ideal S8x32x512x512 .f32) (n : Fin 8) (c : Fin 32) (R C : ℕ) (j : S8x32x514x514.Idx)
    (h0 : (j 0).val = n.val) (h1 : (j 1).val = c.val) (h2 : (j 2).val = R) (h3 : (j 3).val = C) :
    (val_main_v0 (F := Ideal) x j : EReal) = padded x n c R C := by
  unfold val_main_v0 padded
  split
  case isTrue h =>
    refine pad_apply_of_inside _ _ _ x _ _ _ j _ fun a => ?_
    match a with
    | ⟨0, _⟩ => show (j 0).val = 0 + n.val * (0 + 1); omega
    | ⟨1, _⟩ => show (j 1).val = 0 + c.val * (0 + 1); omega
    | ⟨2, _⟩ => show (j 2).val = 1 + (R - 1) * (0 + 1); omega
    | ⟨3, _⟩ => show (j 3).val = 1 + (C - 1) * (0 + 1); omega
  case isFalse h =>
    by_cases hR : 1 ≤ R ∧ R ≤ 512
    · refine (pad_apply_of_not_inside _ _ _ x _ _ _ j 3 ?_).trans (fill _)
      show ¬(1 ≤ (j 3).val ∧ ((j 3).val - 1) % (0 + 1) = 0 ∧ ((j 3).val - 1) / (0 + 1) < 512)
      omega
    · refine (pad_apply_of_not_inside _ _ _ x _ _ _ j 2 ?_).trans (fill _)
      show ¬(1 ≤ (j 2).val ∧ ((j 2).val - 1) % (0 + 1) = 0 ∧ ((j 2).val - 1) / (0 + 1) < 512)
      omega

/-- A sum over the channels of weight times padded image is a tap. -/
theorem tap_read (x : Vec Ideal S8x32x512x512 .f32) (y : Vec Ideal S32x32x3x3 .f32) (n : Fin 8) (o : Fin 32) (R C : ℕ)
    (kh kw : Fin 3) (L : Fin 32 → S32x32x3x3.Idx) (Q : Fin 32 → S8x32x514x514.Idx)
    (h : ∀ c : Fin 32, ((L c 0).val = o.val ∧ (L c 1).val = c.val ∧ (L c 2).val = kh.val ∧ (L c 3).val = kw.val)
      ∧ (Q c 0).val = n.val ∧ (Q c 1).val = c.val ∧ (Q c 2).val = R + kh.val ∧ (Q c 3).val = C + kw.val) :
    (∑ c : Fin 32, y (L c) * val_main_v0 (F := Ideal) x (Q c) : EReal)
      = tap (fun c kh kw => y (ix4 o c kh kw)) (padded x n) R C kh kw := by
  refine Finset.sum_congr rfl fun c _ => ?_
  obtain ⟨⟨l0, l1, l2, l3⟩, q0, q1, q2, q3⟩ := h c
  rw [pad_read x n c _ _ (Q c) q0 q1 q2 q3, mul_comm (G := EReal)]
  refine congrArg (padded x n c _ _ * y ·) (funext fun a => Fin.ext ?_)
  match a with
  | ⟨0, _⟩ => exact l0
  | ⟨1, _⟩ => exact l1
  | ⟨2, _⟩ => exact l2
  | ⟨3, _⟩ => exact l3

/-- The two channels of a weight, out of its place in the 32 by 32 block. -/
theorem quotient (o c : Fin 32) : (o.val * 32 + c.val) / 32 = o.val := by omega
theorem remainder (o c : Fin 32) : (o.val * 32 + c.val) / 1 % 32 = c.val := by omega

/-- Sums of equal terms. -/
theorem add_congr {a b : Ideal .f32} {a' b' : EReal} (ha : a = a') (hb : b = b') :
    FloatOps.addf (F := Ideal) a b = (a' + b' : EReal) := by
  subst ha hb; rfl

/-- The reference at an index is the convolution. -/
theorem reading (x : Vec Ideal S8x32x512x512 .f32) (y : Vec Ideal S32x32x3x3 .f32) (z : Vec Ideal S32 .f32)
    (i : S8x32x512x512.Idx) : (val_main_v56 (F := Ideal) x y z i : EReal)
      = conv (fun c kh kw => y (ix4 (i 1) c kh kw)) (z (ix1 (i 1))) (padded x (i 0)) (i 2).val (i 3).val := by
  simp only [val_main_v56_apply, val_main_v53_apply, val_main_v47_apply, val_main_v41_apply, val_main_v35_apply,
    val_main_v29_apply, val_main_v23_apply, val_main_v17_apply, val_main_v11_apply]
  unfold conv
  refine add_congr (add_congr (add_congr (add_congr (add_congr (add_congr (add_congr (add_congr (add_congr
    ?_ ?_) ?_) ?_) ?_) ?_) ?_) ?_) ?_) ?bias
  case bias =>
    rw [val_main_v55_apply, val_main_v54_apply]
    exact congrArg z (funext fun a => match a with | ⟨0, _⟩ => rfl)
  all_goals
    simp only [val_main_v5_apply, val_main_v10_apply, val_main_v16_apply, val_main_v22_apply, val_main_v28_apply,
      val_main_v34_apply, val_main_v40_apply, val_main_v46_apply, val_main_v52_apply,
      val_main_v4_apply, val_main_v9_apply, val_main_v15_apply, val_main_v21_apply, val_main_v27_apply,
      val_main_v33_apply, val_main_v39_apply, val_main_v45_apply, val_main_v51_apply,
      val_main_v3_apply, val_main_v8_apply, val_main_v14_apply, val_main_v20_apply, val_main_v26_apply,
      val_main_v32_apply, val_main_v38_apply, val_main_v44_apply, val_main_v50_apply,
      val_main_v2_apply, val_main_v7_apply, val_main_v13_apply, val_main_v19_apply, val_main_v25_apply,
      val_main_v31_apply, val_main_v37_apply, val_main_v43_apply, val_main_v49_apply,
      val_main_v1_apply, val_main_v6_apply, val_main_v12_apply, val_main_v18_apply, val_main_v24_apply,
      val_main_v30_apply, val_main_v36_apply, val_main_v42_apply, val_main_v48_apply]
    refine tap_read x y (i 0) (i 1) (i 2).val (i 3).val _ _ _ _ fun c =>
      ⟨⟨quotient (i 1) c, remainder (i 1) c, rfl, rfl⟩, rfl, rfl, ?_, ?_⟩ <;>
    first | rfl | exact Nat.add_comm _ _

end Cert.ReferenceIdeal.Read

end
-- ==== Proof.lean ====
/-
  The claim: the kernel and its idealized reading terminate, leave their arguments and end quiescent; so does the
  reference; and the two results are the same convolution of the same arguments.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Reading
public import Idealize.ShloMosaic.Adequacy
public import Idealize.ShloMosaic.Init
public import Idealize.ShloMosaic.Lib.Quiescent

@[expose] public section

noncomputable section

namespace Cert.Proof

open Idealize.ShloMosaic Idealize.SL.Sem

/-- The reference terminates, leaves its arguments and ends quiescent. -/
theorem frame_reference : Cert.quiescent_ReferenceIdeal (hReferenceIdeal := Cert.ReferenceIdeal.Gen.facts) := fun m g _ =>
  (θ_run _ _ _).mono (fun r h => ⟨fun c => (h c).2, sem_eq_zero_of_no_sems (by decide) r.2⟩)
    (Cert.ReferenceIdeal.Value.run m g)

/-- The two results agree: each is the convolution of the arguments. -/
theorem same_result : Cert.algebraic_KernelIdeal_ReferenceIdeal (hKernelIdeal := Cert.KernelIdeal.Gen.facts)
    (hReferenceIdeal := Cert.ReferenceIdeal.Gen.facts) := fun m g m' g' _ hagree =>
  ⟨Cert.KernelIdeal.Value.resultArr m,
    (θ_run _ _ _).mono (fun r h c => ⟨(h c).1.trans (Cert.KernelIdeal.Value.final m c), (h c).2⟩)
      (Cert.KernelIdeal.Value.run_blocks m g),
    (θ_run _ _ _).mono (fun r h c => ⟨(h c).1.trans (by
      obtain ⟨e0, e1, e2⟩ := hagree c
      rw [Cert.ReferenceIdeal.Read.val_main_v56_eq, e0, e1, e2]
      exact funext fun i => Cert.ReferenceIdeal.Read.reading _ _ _ i), (h c).2⟩)
      (Cert.ReferenceIdeal.Value.run m' g')⟩

theorem claim : Cert.Claim := ⟨Cert.Kernel.Gen.facts, Cert.KernelIdeal.Gen.facts, Cert.ReferenceIdeal.Gen.facts,
  fun m g _ => Cert.Kernel.Gen.frame m g, fun m g _ => Cert.KernelIdeal.Gen.frame m g, frame_reference, trivial,
  same_result⟩

end Cert.Proof

end
